-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x4096x4096 : Shape := ⟨3, ![4, 4096, 4096]⟩
abbrev S64x4096 : Shape := ⟨2, ![64, 4096]⟩
abbrev S64 : Shape := ⟨1, ![64]⟩
abbrev S_ : Shape := ⟨0, ![]⟩

class Facts : Prop where
  bcast_S_S4x4096x4096 : S_.BroadcastsInDim S4x4096x4096 (![] : Fin 0 → Fin S4x4096x4096.rank)
  bcast_S_S64x4096 : S_.BroadcastsInDim S64x4096 (![] : Fin 0 → Fin S64x4096.rank)
  bcast_S_S64 : S_.BroadcastsInDim S64 (![] : Fin 0 → Fin S64.rank)

variable [Facts]

def fn {F : FTy → Type} [FloatOps F] (main_arg0 : FVec F S4x4096x4096 .f32) (main_arg1 : FVec F S64x4096 .f32) (main_arg2 : FVec F S64 .f32) (main_arg3 : FVec F S64 .f32) : IVec S4x4096x4096 1 × IVec S64x4096 1 × IVec S64 1 × IVec S64 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_v3 : FVec F S64x4096 .f32 := Host.absf main_arg1
  let main_cst_0 : FVec F S_ .f32 := constant S_ .f32 0x7F800000#32
  let main_v4 : FVec F S64x4096 .f32 := broadcastInDim S64x4096 ![] bcast_S_S64x4096 main_cst_0
  let main_v5 : IVec S64x4096 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_cst_2 : FVec F S_ .f32 := constant S_ .f32 0xFF800000#32
  let main_v9 : FVec F S64 .f32 := broadcastInDim S64 ![] bcast_S_S64 main_cst_2
  let main_v10 : IVec S64 1 := cmpf .ogt main_arg3 main_v9
  (main_v2, main_v5, main_v8, main_v10)
-- ==== Kernel.lean ====
abbrev S4x4096x4096 : Shape := ⟨3, ![4, 4096, 4096]⟩
abbrev S64x4096 : Shape := ⟨2, ![64, 4096]⟩
abbrev S64 : Shape := ⟨1, ![64]⟩
abbrev S16384x4096 : Shape := ⟨2, ![16384, 4096]⟩
abbrev S64x1 : Shape := ⟨2, ![64, 1]⟩
abbrev S64x16384 : Shape := ⟨2, ![64, 16384]⟩
abbrev S8x16384 : Shape := ⟨2, ![8, 16384]⟩
abbrev S16384x64 : Shape := ⟨2, ![16384, 64]⟩
abbrev S4x4096x64 : Shape := ⟨3, ![4, 4096, 64]⟩
abbrev S16384x8 : Shape := ⟨2, ![16384, 8]⟩
abbrev S4x4096x8 : Shape := ⟨3, ![4, 4096, 8]⟩
abbrev S1024x4096 : Shape := ⟨2, ![1024, 4096]⟩
abbrev S64x1024 : Shape := ⟨2, ![64, 1024]⟩
abbrev S8x1024 : Shape := ⟨2, ![8, 1024]⟩
abbrev S512x4096 : Shape := ⟨2, ![512, 4096]⟩
abbrev S64x512 : Shape := ⟨2, ![64, 512]⟩
abbrev S512 : Shape := ⟨1, ![512]⟩
abbrev S1x512 : Shape := ⟨2, ![1, 512]⟩
abbrev S8x512 : Shape := ⟨2, ![8, 512]⟩

abbrev nBuf : Space → Nat
  | .hbm => 13
  | .vmem => 9
  | .smem => 0
  | _ => 0

abbrev bufTy : (tb : Table) → Fin (tcTables nBuf tb) → BufTy
  | .hbm, ⟨0, _⟩ => ⟨S4x4096x4096, .f32⟩
  | .hbm, ⟨1, _⟩ => ⟨S64x4096, .f32⟩
  | .hbm, ⟨2, _⟩ => ⟨S64, .f32⟩
  | .hbm, ⟨3, _⟩ => ⟨S64, .f32⟩
  | .hbm, ⟨4, _⟩ => ⟨S16384x4096, .f32⟩
  | .hbm, ⟨5, _⟩ => ⟨S64x1, .f32⟩
  | .hbm, ⟨6, _⟩ => ⟨S64x1, .f32⟩
  | .hbm, ⟨7, _⟩ => ⟨S64x16384, .f32⟩
  | .hbm, ⟨8, _⟩ => ⟨S8x16384, .i32⟩
  | .hbm, ⟨9, _⟩ => ⟨S16384x64, .f32⟩
  | .hbm, ⟨10, _⟩ => ⟨S4x4096x64, .f32⟩
  | .hbm, ⟨11, _⟩ => ⟨S16384x8, .i32⟩
  | .hbm, ⟨12, _⟩ => ⟨S4x4096x8, .i32⟩
  | .local _ .vmem, ⟨0, _⟩ => ⟨S1024x4096, .f32⟩
  | .local _ .vmem, ⟨1, _⟩ => ⟨S1024x4096, .f32⟩
  | .local _ .vmem, ⟨2, _⟩ => ⟨S64x4096, .f32⟩
  | .local _ .vmem, ⟨3, _⟩ => ⟨S64x1, .f32⟩
  | .local _ .vmem, ⟨4, _⟩ => ⟨S64x1, .f32⟩
  | .local _ .vmem, ⟨5, _⟩ => ⟨S64x1024, .f32⟩
  | .local _ .vmem, ⟨6, _⟩ => ⟨S64x1024, .f32⟩
  | .local _ .vmem, ⟨7, _⟩ => ⟨S8x1024, .i32⟩
  | .local _ .vmem, ⟨8, _⟩ => ⟨S8x1024, .i32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3_0 : Ref sig .tc := ⟨.hbm, 7, rfl⟩
abbrev main_call0_v3_1 : Ref sig .tc := ⟨.hbm, 8, rfl⟩
abbrev main_call0_v4 : Ref sig .tc := ⟨.hbm, 9, rfl⟩
abbrev main_v0_0 : Ref sig .tc := ⟨.hbm, 10, rfl⟩
abbrev main_call0_v6 : Ref sig .tc := ⟨.hbm, 11, rfl⟩
abbrev main_v0_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x4096x4096 : Shape := ⟨3, ![4, 4096, 4096]⟩
abbrev S64x4096 : Shape := ⟨2, ![64, 4096]⟩
abbrev S64 : Shape := ⟨1, ![64]⟩
abbrev S4x4096x64 : Shape := ⟨3, ![4, 4096, 64]⟩
abbrev S1x1x64 : Shape := ⟨3, ![1, 1, 64]⟩
abbrev S_ : Shape := ⟨0, ![]⟩
abbrev S4x4096x8 : Shape := ⟨3, ![4, 4096, 8]⟩
abbrev S4x4096x8x1 : Shape := ⟨4, ![4, 4096, 8, 1]⟩
abbrev S1 : Shape := ⟨1, ![1]⟩
abbrev S1x1x1x1 : Shape := ⟨4, ![1, 1, 1, 1]⟩
abbrev S1x1x1x64 : Shape := ⟨4, ![1, 1, 1, 64]⟩
abbrev S4x4096x8x64 : Shape := ⟨4, ![4, 4096, 8, 64]⟩
abbrev S4x4096 : Shape := ⟨2, ![4, 4096]⟩
abbrev S4x4096x1 : Shape := ⟨3, ![4, 4096, 1]⟩

abbrev nBuf : Space → Nat
  | .hbm => 72
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S64x4096, .f32⟩
  | .hbm, ⟨2, _⟩ => ⟨S64, .f32⟩
  | .hbm, ⟨3, _⟩ => ⟨S64, .f32⟩
  | .hbm, ⟨4, _⟩ => ⟨S4x4096x64, .f32⟩
  | .hbm, ⟨5, _⟩ => ⟨S1x1x64, .f32⟩
  | .hbm, ⟨6, _⟩ => ⟨S4x4096x64, .f32⟩
  | .hbm, ⟨7, _⟩ => ⟨S4x4096x64, .f32⟩
  | .hbm, ⟨8, _⟩ => ⟨S_, .f32⟩
  | .hbm, ⟨9, _⟩ => ⟨S4x4096x64, .f32⟩
  | .hbm, ⟨10, _⟩ => ⟨S4x4096x64, .f32⟩
  | .hbm, ⟨11, _⟩ => ⟨S1x1x64, .f32⟩
  | .hbm, ⟨12, _⟩ => ⟨S4x4096x64, .f32⟩
  | .hbm, ⟨13, _⟩ => ⟨S4x4096x64, .f32⟩
  | .hbm, ⟨14, _⟩ => ⟨S4x4096x8, .f32⟩
  | .hbm, ⟨15, _⟩ => ⟨S4x4096x8, .i32⟩
  | .hbm, ⟨16, _⟩ => ⟨S_, .i32⟩
  | .hbm, ⟨17, _⟩ => ⟨S4x4096x8, .i32⟩
  | .hbm, ⟨18, _⟩ => ⟨S4x4096x8, .i1⟩
  | .hbm, ⟨19, _⟩ => ⟨S_, .i32⟩
  | .hbm, ⟨20, _⟩ => ⟨S4x4096x8, .i32⟩
  | .hbm, ⟨21, _⟩ => ⟨S4x4096x8, .i32⟩
  | .hbm, ⟨22, _⟩ => ⟨S4x4096x8, .i32⟩
  | .hbm, ⟨23, _⟩ => ⟨S4x4096x8x1, .i32⟩
  | .hbm, ⟨24, _⟩ => ⟨S1, .i32⟩
  | .hbm, ⟨25, _⟩ => ⟨S_, .i32⟩
  | .hbm, ⟨26, _⟩ => ⟨S4x4096x8x1, .i32⟩
  | .hbm, ⟨27, _⟩ => ⟨S4x4096x8x1, .i1⟩
  | .hbm, ⟨28, _⟩ => ⟨S1x1x1x1, .i32⟩
  | .hbm, ⟨29, _⟩ => ⟨S4x4096x8x1, .i32⟩
  | .hbm, ⟨30, _⟩ => ⟨S4x4096x8x1, .i1⟩
  | .hbm, ⟨31, _⟩ => ⟨S4x4096x8x1, .i1⟩
  | .hbm, ⟨32, _⟩ => ⟨S_, .i1⟩
  | .hbm, ⟨33, _⟩ => ⟨S4x4096x8, .i1⟩
  | .hbm, ⟨34, _⟩ => ⟨S4x4096x8, .f32⟩
  | .hbm, ⟨35, _⟩ => ⟨S_, .f32⟩
  | .hbm, ⟨36, _⟩ => ⟨S4x4096x8, .f32⟩
  | .hbm, ⟨37, _⟩ => ⟨S4x4096x8, .f32⟩
  | .hbm, ⟨38, _⟩ => ⟨S4x4096x8x1, .i32⟩
  | .hbm, ⟨39, _⟩ => ⟨S1x1x1x64, .i32⟩
  | .hbm, ⟨40, _⟩ => ⟨S4x4096x8x64, .i32⟩
  | .hbm, ⟨41, _⟩ => ⟨S4x4096x8x64, .i32⟩
  | .hbm, ⟨42, _⟩ => ⟨S4x4096x8x64, .i1⟩
  | .hbm, ⟨43, _⟩ => ⟨S4x4096x8x64, .f32⟩
  | .hbm, ⟨44, _⟩ => ⟨S4x4096x8x1, .f32⟩
  | .hbm, ⟨45, _⟩ => ⟨S4x4096x8x64, .f32⟩
  | .hbm, ⟨46, _⟩ => ⟨S4x4096x8x64, .f32⟩
  | .hbm, ⟨47, _⟩ => ⟨S_, .f32⟩
  | .hbm, ⟨48, _⟩ => ⟨S4x4096x64, .f32⟩
  | .hbm, ⟨49, _⟩ => ⟨S_, .f32⟩
  | .hbm, ⟨50, _⟩ => ⟨S4x4096x64, .f32⟩
  | .hbm, ⟨51, _⟩ => ⟨S_, .f32⟩
  | .hbm, ⟨52, _⟩ => ⟨S4x4096x64, .f32⟩
  | .hbm, ⟨53, _⟩ => ⟨S4x4096x64, .i1⟩
  | .hbm, ⟨54, _⟩ => ⟨S_, .f32⟩
  | .hbm, ⟨55, _⟩ => ⟨S_, .f32⟩
  | .hbm, ⟨56, _⟩ => ⟨S4x4096x64, .f32⟩
  | .hbm, ⟨57, _⟩ => ⟨S4x4096x64, .f32⟩
  | .hbm, ⟨58, _⟩ => ⟨S_, .f32⟩
  | .hbm, ⟨59, _⟩ => ⟨S4x4096, .f32⟩
  | .hbm, ⟨60, _⟩ => ⟨S_, .f32⟩
  | .hbm, ⟨61, _⟩ => ⟨S4x4096, .f32⟩
  | .hbm, ⟨62, _⟩ => ⟨S4x4096, .f32⟩
  | .hbm, ⟨63, _⟩ => ⟨S4x4096x1, .f32⟩
  | .hbm, ⟨64, _⟩ => ⟨S4x4096x64, .f32⟩
  | .hbm, ⟨65, _⟩ => ⟨S4x4096x64, .f32⟩
  | .hbm, ⟨66, _⟩ => ⟨S4x4096x64, .f32⟩
  | .hbm, ⟨67, _⟩ => ⟨S_, .f32⟩
  | .hbm, ⟨68, _⟩ => ⟨S4x4096, .f32⟩
  | .hbm, ⟨69, _⟩ => ⟨S4x4096x1, .f32⟩
  | .hbm, ⟨70, _⟩ => ⟨S4x4096x64, .f32⟩
  | .hbm, ⟨71, _⟩ => ⟨S4x4096x64, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_values : Ref sig .tc := ⟨.hbm, 14, rfl⟩
abbrev main_indices : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_cst : Ref sig .tc := ⟨.hbm, 35, rfl⟩
abbrev main_call0_v14 : Ref sig .tc := ⟨.hbm, 36, rfl⟩
abbrev main_v9 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_cst_0 : Ref sig .tc := ⟨.hbm, 47, rfl⟩
abbrev main_v14 : Ref sig .tc := ⟨.hbm, 48, rfl⟩
abbrev main_cst_1 : Ref sig .tc := ⟨.hbm, 49, rfl⟩
abbrev main_v15 : Ref sig .tc := ⟨.hbm, 50, rfl⟩
abbrev main_cst_2 : Ref sig .tc := ⟨.hbm, 51, rfl⟩
abbrev main_v16 : Ref sig .tc := ⟨.hbm, 52, rfl⟩
abbrev main_v17 : Ref sig .tc := ⟨.hbm, 53, rfl⟩
abbrev main_cst_3 : Ref sig .tc := ⟨.hbm, 54, rfl⟩
abbrev main_call2_v0 : Ref sig .tc := ⟨.hbm, 55, rfl⟩
abbrev main_call2_v1 : Ref sig .tc := ⟨.hbm, 56, rfl⟩
abbrev main_v18 : Ref sig .tc := ⟨.hbm, 57, rfl⟩
abbrev main_cst_4 : Ref sig .tc := ⟨.hbm, 58, rfl⟩
abbrev main_v19 : Ref sig .tc := ⟨.hbm, 59, rfl⟩
abbrev main_cst_5 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_cst_6 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩

abbrev nD : Nat := 1
abbrev τ : Topo := Topo.v7x

variable {F : FTy → Type} [FloatOps F]
-- ==== Proof.Router.Column.lean ====
/- One token's scores, as a column of 64 extended reals: eight rounds of "take the greatest, then strike it out" choose
   the experts that a stable descending sort puts first. -/
module

public import Idealize.ShloMosaic.Lib.SortPrefix
public import Idealize.ShloMosaic.PureOps.Ideal

@[expose] public section

noncomputable section

namespace Cert.Router

open Idealize.ShloMosaic

/-- A token's score for each of the 64 experts. -/
abbrev Column : Type := Fin 64 → EReal

/-- The number that stands for an expert in a round: 63 for the first expert, down to 0 for the last. -/
def mark (i : Fin 64) : EReal := (((63 - (i.val : ℤ) : ℤ) : ℝ) : EReal)

/-- The greatest score of a column. -/
def peak (w : Column) : EReal := Finset.univ.fold max ⊥ w

/-- The mark a round takes: the greatest mark among the experts whose score is the column's greatest. -/
def pick (w : Column) : EReal := Finset.univ.fold max ⊥ fun i => if w i = peak w then mark i else -1

/-- The column after a round: the expert with the taken mark is set to minus infinity. -/
def strike (w : Column) : Column := fun i => if mark i = pick w then ⊥ else w i

/-- The expert number a round writes out. -/
def word (w : Column) : BitVec 32 := Ideal.fptosi 32 (63 - pick w)

/-- Marks tell experts apart. -/
theorem mark_inj {i j : Fin 64} : mark i = mark j ↔ i = j := by
  refine ⟨fun h => ?_, fun h => h ▸ rfl⟩
  have h' := EReal.coe_injective h
  have h'' : (63 - (i.val : ℤ)) = 63 - (j.val : ℤ) := by exact_mod_cast h'
  exact Fin.ext (by omega)

/-- A smaller expert number has the greater mark. -/
theorem mark_le {i j : Fin 64} (h : j ≤ i) : mark i ≤ mark j := by
  unfold mark
  have : (63 - (i.val : ℤ)) ≤ 63 - (j.val : ℤ) := by have := Fin.le_def.mp h; omega
  exact_mod_cast this

/-- Every mark is at least zero, so above minus one. -/
theorem neg_one_le_mark (i : Fin 64) : (-1 : EReal) ≤ mark i := by
  unfold mark
  have h : (-1 : ℤ) ≤ 63 - (i.val : ℤ) := by have := i.isLt; omega
  have h' : ((-1 : ℝ)) ≤ ((63 - (i.val : ℤ) : ℤ) : ℝ) := by exact_mod_cast h
  have h'' := EReal.coe_le_coe_iff.mpr h'
  simpa using h''

/-- In every column some expert has the greatest score and every expert before it has a smaller one. -/
theorem exists_first (w : Column) : ∃ p, (∀ j, w j ≤ w p) ∧ ∀ j, j < p → w j < w p := by
  classical
  obtain ⟨q, hq⟩ := Finite.exists_max w
  have hne : (Finset.univ.filter fun i => ∀ j, w j ≤ w i).Nonempty := ⟨q, by simpa using hq⟩
  have hm := Finset.min'_mem _ hne
  refine ⟨_, (Finset.mem_filter.mp hm).2, fun j hj => ?_⟩
  by_contra hlt
  have hge := le_of_not_gt hlt
  have hj' : j ∈ Finset.univ.filter fun i => ∀ j, w j ≤ w i :=
    Finset.mem_filter.mpr ⟨Finset.mem_univ _, fun k => ((Finset.mem_filter.mp hm).2 k).trans hge⟩
  exact absurd (Finset.min'_le _ j hj') (not_le.mpr hj)

/-- The first expert with the greatest score. -/
def first (w : Column) : Fin 64 := (exists_first w).choose

/-- No score is above the first greatest one. -/
theorem le_first (w : Column) (j : Fin 64) : w j ≤ w (first w) := (exists_first w).choose_spec.1 j

/-- The experts before it score strictly less. -/
theorem lt_first (w : Column) (j : Fin 64) (h : j < first w) : w j < w (first w) := (exists_first w).choose_spec.2 j h

/-- The greatest score is the score of that expert. -/
theorem peak_eq (w : Column) : peak w = w (first w) := by
  refine le_antisymm ((Finset.fold_max_le _).mpr ⟨bot_le, fun j _ => le_first w j⟩) ?_
  exact (Finset.le_fold_max _).mpr (Or.inr ⟨first w, Finset.mem_univ _, le_rfl⟩)

/-- The mark a round takes is the mark of the first expert with the greatest score. -/
theorem pick_eq (w : Column) : pick w = mark (first w) := by
  refine le_antisymm ((Finset.fold_max_le _).mpr ⟨bot_le, fun j _ => ?_⟩) ?_
  · split
    · next h =>
      refine mark_le (le_of_not_gt fun hlt => ?_)
      exact absurd (h.trans (peak_eq w)) (lt_first w j hlt).ne
    · exact neg_one_le_mark _
  · refine (Finset.le_fold_max _).mpr (Or.inr ⟨first w, Finset.mem_univ _, ?_⟩)
    rw [if_pos (peak_eq w).symm]

/-- A round strikes out that expert and no other. -/
theorem strike_apply (w : Column) (i : Fin 64) : strike w i = if i = first w then ⊥ else w i := by
  simp only [strike, pick_eq, mark_inj]

/-- A round writes out that expert's number. -/
theorem word_eq (w : Column) : word w = BitVec.ofNat 32 (first w).val := by
  have h : (63 : EReal) - mark (first w) = (((first w).val : ℝ) : EReal) := by
    unfold mark
    rw [show (63 : EReal) = ((63 : ℝ) : EReal) from rfl, ← EReal.coe_sub]
    congr 1
    push_cast; ring
  have hl := (first w).isLt
  unfold word Ideal.fptosi
  rw [pick_eq, h, Ideal.toIntClamped_coe, if_pos (by positivity), Int.floor_natCast]
  rw [show max (-(2 ^ (32 - 1) : Nat) : Int) (min (((2 ^ (32 - 1) : Nat) : Int) - 1) ((first w).val : Int)) = ((first w).val : Int) by
    norm_num; omega]
  exact BitVec.ofInt_natCast _ _

/-- The column after `r` rounds. -/
def after (w : Column) : ℕ → Column
  | 0 => w
  | r + 1 => strike (after w r)

/-- The expert that round `r` takes. -/
def taken (w : Column) (r : ℕ) : Fin 64 := first (after w r)

/-- After `r` rounds the experts taken so far are at minus infinity and the others keep their score. -/
theorem after_apply (w : Column) (r : ℕ) (i : Fin 64) : after w r i = if ∃ s, s < r ∧ taken w s = i then ⊥ else w i := by
  classical
  induction r with
  | zero => simp [after]
  | succ r ih =>
    rw [after, strike_apply, ih, show first (after w r) = taken w r from rfl]
    by_cases h1 : i = taken w r
    · rw [if_pos h1, if_pos ⟨r, Nat.lt_succ_self r, h1.symm⟩]
    · rw [if_neg h1]
      by_cases h2 : ∃ s, s < r ∧ taken w s = i
      · obtain ⟨s, hs, e⟩ := h2
        rw [if_pos ⟨s, hs, e⟩, if_pos ⟨s, Nat.lt_succ_of_lt hs, e⟩]
      · rw [if_neg h2, if_neg]
        rintro ⟨s, hs, e⟩
        rcases Nat.lt_succ_iff_lt_or_eq.mp hs with hs | rfl
        · exact h2 ⟨s, hs, e⟩
        · exact h1 e.symm

/-- While fewer than 64 rounds have run, some expert is not yet taken. -/
theorem exists_free (w : Column) {r : ℕ} (hr : r < 64) : ∃ i, ¬ ∃ s, s < r ∧ taken w s = i := by
  classical
  by_contra h
  push Not at h
  have hsub : (Finset.univ : Finset (Fin 64)) ⊆ (Finset.range r).image (taken w) := fun i _ => by
    obtain ⟨s, hs, e⟩ := h i
    exact Finset.mem_image.mpr ⟨s, Finset.mem_range.mpr hs, e⟩
  have := (Finset.card_le_card hsub).trans Finset.card_image_le
  simp at this
  omega

variable {w : Column} (hw : ∀ i, w i ≠ ⊥)
include hw

/-- A round takes an expert that no earlier round took. -/
theorem taken_fresh {r s : ℕ} (hr : r < 64) (hs : s < r) : taken w s ≠ taken w r := by
  intro e
  obtain ⟨i, hi⟩ := exists_free w hr
  have h1 := le_first (after w r) i
  rw [after_apply w r i, if_neg hi, show first (after w r) = taken w r from rfl, after_apply w r (taken w r),
    if_pos ⟨s, hs, e⟩] at h1
  exact hw i (le_bot_iff.mp h1)

/-- A round's expert scores at least as much as every expert not taken by an earlier round. -/
theorem le_taken {r : ℕ} (hr : r < 64) (i : Fin 64) (hi : ∀ s, s < r → taken w s ≠ i) : w i ≤ w (taken w r) := by
  have h1 := le_first (after w r) i
  rw [after_apply w r i, if_neg (by rintro ⟨s, hs, e⟩; exact hi s hs e), show first (after w r) = taken w r from rfl,
    after_apply w r (taken w r), if_neg (by rintro ⟨s, hs, e⟩; exact taken_fresh hw hr hs e)] at h1
  exact h1

/-- And strictly more than those with a smaller number. -/
theorem lt_taken {r : ℕ} (hr : r < 64) (i : Fin 64) (hi : ∀ s, s < r → taken w s ≠ i) (hlt : i < taken w r) :
    w i < w (taken w r) := by
  have h1 := lt_first (after w r) i hlt
  rw [after_apply w r i, if_neg (by rintro ⟨s, hs, e⟩; exact hi s hs e), show first (after w r) = taken w r from rfl,
    after_apply w r (taken w r), if_neg (by rintro ⟨s, hs, e⟩; exact taken_fresh hw hr hs e)] at h1
  exact h1

/-- After eight rounds exactly the eight experts taken are at minus infinity. -/
theorem after_eq_bot (i : Fin 64) : after w 8 i = ⊥ ↔ ∃ s : Fin 8, taken w s = i := by
  rw [after_apply]
  constructor
  · intro h
    by_contra hn
    rw [if_neg (by rintro ⟨s, hs, e⟩; exact hn ⟨⟨s, hs⟩, e⟩)] at h
    exact hw i h
  · rintro ⟨s, e⟩
    rw [if_pos ⟨s.val, s.isLt, e⟩]

/-- Eight rounds take eight different experts. -/
theorem taken_injective : Function.Injective fun s : Fin 8 => taken w s := by
  intro a b e
  by_contra hne
  rcases lt_or_gt_of_ne hne with h | h
  · exact taken_fresh hw (b.isLt.trans (by norm_num)) h e
  · exact taken_fresh hw (a.isLt.trans (by norm_num)) h e.symm

omit hw in
/-- Inserting into a list compares only elements of the list with the inserted one. -/
theorem stableSort_congr_of_pairwise {ι : Type} (R R' : ι → ι → Bool) (l : List ι)
    (h : l.Pairwise fun a b => R b a = R' b a) : stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

omit hw in
/-- Two comparators that sort the positions alike read the same place from them. -/
theorem sortedFrom_of_positions {n : Nat} {B B' : Fin n → Fin n → Bool} (h : sortPositions n B = sortPositions n B') :
    sortedFrom B = sortedFrom B' := by
  funext k
  unfold sortedFrom
  rw [List.get_of_eq h]
  rfl

/-- THE SELECTION: the expert that round `r` takes is the one a stable sort of the scores, greatest first, puts at
    place `r`. -/
theorem sortedFrom_eq_taken (r : Fin 8) :
    sortedFrom (fun k k' : Fin 64 => Ideal.cmpTotal .gt (w k) (w k') == 1#1) (r.castLE (by norm_num)) = taken w r := by
  classical
  have hB : StrictTotalBefore fun k k' : Fin 64 =>
      (decide (w k' < w k)) || (decide (w k = w k') && decide (k < k')) :=
    StrictTotalBefore.of_key_then_position (fun a b : EReal => decide (b < a)) w (by simp)
      (fun a b c h h' => by simp only [decide_eq_true_eq] at h h' ⊢; exact h'.trans h)
      (fun a b => by
        simp only [decide_eq_true_eq]
        rcases lt_trichotomy a b with h | h | h
        · exact Or.inr (Or.inr h)
        · exact Or.inr (Or.inl h)
        · exact Or.inl h)
  have hsort : sortPositions 64 (fun k k' : Fin 64 => Ideal.cmpTotal .gt (w k) (w k') == 1#1)
      = sortPositions 64 fun k k' : Fin 64 => (decide (w k' < w k)) || (decide (w k = w k') && decide (k < k')) := by
    refine stableSort_congr_of_pairwise _ _ _ ?_
    refine (List.pairwise_lt_finRange 64).imp fun {a b} hab => ?_
    have : ¬ b < a := not_lt.mpr hab.le
    by_cases h : w a < w b <;>
      simp [Ideal.cmpTotal, Ideal.cmp, CmpDirection.ordered, h, this]
  have hfrom : sortedFrom (fun k k' : Fin 64 => Ideal.cmpTotal .gt (w k) (w k') == 1#1)
      = sortedFrom fun k k' : Fin 64 => (decide (w k' < w k)) || (decide (w k = w k') && decide (k < k')) :=
    sortedFrom_of_positions hsort
  rw [hfrom]
  refine hB.sortedFrom_eq_of_prefix (by norm_num) (fun s : Fin 8 => taken w s) (taken_injective hw) ?_ ?_ r
  · intro i j hij
    have hfree : ∀ s, s < i.val → taken w s ≠ taken w j := fun s hs =>
      taken_fresh hw (j.isLt.trans (by norm_num)) (hs.trans hij)
    have h1 := le_taken hw (i.isLt.trans (by norm_num)) (taken w j) hfree
    have h2 := lt_taken hw (i.isLt.trans (by norm_num)) (taken w j) hfree
    simp only [Bool.or_eq_false_iff, decide_eq_false_iff_not, Bool.and_eq_false_iff, not_lt]
    refine ⟨h1, ?_⟩
    by_cases h : taken w j < taken w i
    · exact Or.inl (h2 h).ne
    · exact Or.inr (not_lt.mp h)
  · intro i p hp
    have hfree : ∀ s, s < i.val → taken w s ≠ p := fun s hs => hp ⟨s, hs.trans i.isLt⟩
    have h1 := le_taken hw (i.isLt.trans (by norm_num)) p hfree
    have h2 := lt_taken hw (i.isLt.trans (by norm_num)) p hfree
    simp only [Bool.or_eq_false_iff, decide_eq_false_iff_not, Bool.and_eq_false_iff, not_lt]
    refine ⟨h1, ?_⟩
    by_cases h : p < taken w i
    · exact Or.inl (h2 h).ne
    · exact Or.inr (not_lt.mp h)

end Cert.Router

end
-- ==== Proof.Router.Rounds.lean ====
/- One round of the kernel's selection over a half block (64 experts by 512 tokens), read one token at a time. -/
module

public import proofs.«01_k».proof.Proof.Gen.KernelIdeal.Skeleton
public import proofs.«01_k».proof.Proof.Router.Column
public import Idealize.ShloMosaic.Lib.Pointwise

@[expose] public section

noncomputable section

namespace Cert.Router

open Idealize.ShloMosaic Idealize.SL.Sem Cert.KernelIdeal Cert.KernelIdeal.Gen

/-- Scores of a half block: 64 experts by 512 tokens. -/
abbrev Grid : Type := FVec Ideal S64x512 .f32

/-- One number per token of a half block. -/
abbrev Row : Type := FVec Ideal S1x512 .f32

/-- Token `c`'s column of a half block. -/
def col (u : Grid) (c : Fin 512) : Column := fun i => u (ix2 i c)

/-- The array that holds every expert's mark, the same for every token. -/
def marks : Grid := k0_pay10 (F := Ideal)

/-- A row repeated for every expert. -/
def spread (v : Row) : Grid := broadcastTo S64x512 v broadcasts_S1x512_S64x512

/-- The greatest entry of each token's column. -/
def peakRow (u : Grid) : Row :=
  shapeCast S1x512 (multiReduction .maximumf [0] S512 u 0xFF800000#32 reduces_S64x512_S512 (.inl rfl) rfl) shapeCasts_S512_S1x512

/-- The marks where a token's score is its greatest, minus one elsewhere. -/
def markedGrid (u : Grid) : Grid :=
  select (cmpf .oeq u (spread (peakRow u))) marks (broadcast S64x512 (Scalar.ofBits .f32 0xBF800000#32))

/-- The mark each token's round takes. -/
def pickRow (u : Grid) : Row := peakRow (markedGrid u)

/-- Minus infinity everywhere. -/
def ninfGrid : Grid := broadcast S64x512 (Scalar.ofBits .f32 0xFF800000#32)

/-- Where an expert's mark is the one taken. -/
def hitGrid (u : Grid) : IVec S64x512 1 := cmpf .oeq marks (spread (pickRow u))

/-- The half block after a round. -/
def strikeGrid (u : Grid) : Grid := select (hitGrid u) ninfGrid u

/-- The expert numbers a round writes out. -/
def wordRow (u : Grid) : IVec S1x512 32 :=
  fptosi 32 (subf (broadcast S1x512 (Scalar.ofBits .f32 0x427C0000#32)) (pickRow u))

/-- The exponentials of the gates where the final scores are at minus infinity, zero elsewhere. -/
def weightGrid (g u : Grid) : Grid :=
  select (cmpf .oeq u ninfGrid) (exp g) (broadcast S64x512 (Scalar.ofBits .f32 0x00000000#32))

/-- The total weight of each token. -/
def totalRow (e : Grid) : Row :=
  shapeCast S1x512 (multiReduction .add [0] S512 e 0x00000000#32 reduces_S64x512_S512 (.inl rfl) rfl) shapeCasts_S512_S1x512

/-- The weights divided by their total. -/
def outGrid (g u : Grid) : Grid := divf (weightGrid g u) (spread (totalRow (weightGrid g u)))

/-- The half block after `r` rounds. -/
def afterGrid (u : Grid) : ℕ → Grid
  | 0 => u
  | r + 1 => strikeGrid (afterGrid u r)

/-- The pattern of minus infinity is the bottom element. -/
theorem ofBits_ninf : Ideal.ofBits .f32 0xFF800000#32 = (⊥ : EReal) := by
  simp [Ideal.ofBits, Ideal.ieee]

/-- The pattern of minus one. -/
theorem ofBits_neg_one : Ideal.ofBits .f32 0xBF800000#32 = (-1 : EReal) := by
  simp [Ideal.ofBits, Ideal.ieee, -EReal.coe_mul]; norm_num

/-- The pattern of sixty-three. -/
theorem ofBits_63 : Ideal.ofBits .f32 0x427C0000#32 = (63 : EReal) := by
  simp [Ideal.ofBits, Ideal.ieee, -EReal.coe_mul]; norm_num; rfl

/-- Sixty-three less an expert number, as a signed word, is that difference. -/
theorem toInt_rev (i : Fin 64) : (63#32 - BitVec.ofNat 32 i.val).toInt = 63 - (i.val : ℤ) := by
  revert i; decide +kernel

/-- The array of marks holds each expert's mark. -/
theorem marks_apply (i : Fin 64) (c : Fin 512) : marks (ix2 i c) = mark i := by
  unfold marks k0_pay10
  pointwise
  show (((63#32 - BitVec.ofNat 32 i.val).toInt : ℝ) : EReal) = mark i
  rw [toInt_rev]; rfl

/-- A spread row reads the token's number for every expert. -/
theorem spread_apply (v : Row) (i : Fin 64) (c : Fin 512) : spread v (ix2 i c) = v (ix2 0 c) := by
  unfold spread
  pointwise

/-- The greatest entry of a token's column. -/
theorem peakRow_apply (u : Grid) (c : Fin 512) : peakRow u (ix2 0 c) = peak (col u c) := by
  unfold peakRow
  pointwise
  rw [ofBits_ninf]; rfl

/-- The marks kept for a token. -/
theorem col_markedGrid (u : Grid) (c : Fin 512) :
    col (markedGrid u) c = fun i => if col u c i = peak (col u c) then mark i else -1 := by
  funext i
  unfold col markedGrid
  pointwise
  rw [spread_apply, peakRow_apply, marks_apply]
  rw [ofBits_neg_one]; rfl

/-- The mark a token's round takes. -/
theorem pickRow_apply (u : Grid) (c : Fin 512) : pickRow u (ix2 0 c) = pick (col u c) := by
  unfold pickRow
  rw [peakRow_apply, col_markedGrid]; rfl

/-- A round of a half block is a round of every token's column. -/
theorem col_strikeGrid (u : Grid) (c : Fin 512) : col (strikeGrid u) c = strike (col u c) := by
  funext i
  unfold col strikeGrid hitGrid ninfGrid
  pointwise
  rw [spread_apply, pickRow_apply, marks_apply]
  rw [ofBits_ninf]; rfl

/-- The number a round writes out for a token. -/
theorem wordRow_apply (u : Grid) (c : Fin 512) : wordRow u (ix2 0 c) = word (col u c) := by
  unfold wordRow
  pointwise
  rw [pickRow_apply]
  rw [ofBits_63]; rfl

/-- `r` rounds of a half block are `r` rounds of every token's column. -/
theorem col_afterGrid (u : Grid) (r : ℕ) (c : Fin 512) : col (afterGrid u r) c = after (col u c) r := by
  induction r with
  | zero => rfl
  | succ r ih => rw [afterGrid, col_strikeGrid, ih]; rfl

/-- A token's weight for an expert. -/
theorem weightGrid_apply (g u : Grid) (i : Fin 64) (c : Fin 512) :
    weightGrid g u (ix2 i c) = if col u c i = ⊥ then Ideal.exp (g (ix2 i c)) else 0 := by
  unfold weightGrid ninfGrid col
  pointwise
  rw [ofBits_ninf]

/-- A token's final number for an expert: its weight over the total of its weights. -/
theorem outGrid_apply (g u : Grid) (i : Fin 64) (c : Fin 512) :
    outGrid g u (ix2 i c) = Ideal.div (weightGrid g u (ix2 i c)) (∑ k, weightGrid g u (ix2 k c)) := by
  unfold outGrid
  pointwise
  rw [spread_apply]
  unfold totalRow
  pointwise

end Cert.Router

end
-- ==== Proof.Router.Halves.lean ====
/- What the kernel's body computes for each half block, as rounds of the half block's scores. -/
module

public import proofs.«01_k».proof.Proof.Gen.KernelIdeal.Frame
public import proofs.«01_k».proof.Proof.Router.Rounds

@[expose] public section

noncomputable section

namespace Cert.Router

open Idealize.ShloMosaic Idealize.SL.Sem Cert.KernelIdeal Cert.KernelIdeal.Gen

/-- The eight rows of expert numbers of a half block. -/
def idsGrid (u : Grid) : IVec S8x512 32 :=
  concatenate S8x512 0 [⟨S1x512, wordRow (afterGrid u 0)⟩, ⟨S1x512, wordRow (afterGrid u 1)⟩, ⟨S1x512, wordRow (afterGrid u 2)⟩,
    ⟨S1x512, wordRow (afterGrid u 3)⟩, ⟨S1x512, wordRow (afterGrid u 4)⟩, ⟨S1x512, wordRow (afterGrid u 5)⟩,
    ⟨S1x512, wordRow (afterGrid u 6)⟩, ⟨S1x512, wordRow (afterGrid u 7)⟩]
    concatenates_S1x512_S1x512_S1x512_S1x512_S1x512_S1x512_S1x512_S1x512_S8x512_d0

/-- Row `r` of the expert numbers is the number round `r` writes out. -/
theorem idsGrid_apply (u : Grid) (r : Fin 8) (c : Fin 512) : idsGrid u (ix2 r c) = word (after (col u c) r) := by
  rw [← col_afterGrid, ← wordRow_apply]
  unfold idsGrid
  fin_cases r <;> rfl

/-! ## The first half's payloads: three stretches of rounds -/

/-- Three rounds, and the hit array of the next. -/
theorem pay21_eq (u : Grid) : k0_pay21 u marks (hitGrid u) ninfGrid = afterGrid u 3 := rfl
theorem pay24_eq (u : Grid) : k0_pay24 u marks (hitGrid u) ninfGrid = hitGrid (afterGrid u 3) := rfl
theorem pay17_eq (u : Grid) : k0_pay17 u marks (hitGrid u) ninfGrid = wordRow (afterGrid u 1) := rfl
theorem pay20_eq (u : Grid) : k0_pay20 u marks (hitGrid u) ninfGrid = wordRow (afterGrid u 2) := rfl
theorem pay23_eq (u : Grid) : k0_pay23 u marks (hitGrid u) ninfGrid = wordRow (afterGrid u 3) := rfl

/-- Three more rounds. -/
theorem pay32_eq (u : Grid) (r : ℕ) : k0_pay32 marks (afterGrid u r) (hitGrid (afterGrid u r)) ninfGrid = afterGrid u (r + 3) := rfl
theorem pay35_eq (u : Grid) (r : ℕ) : k0_pay35 marks (afterGrid u r) (hitGrid (afterGrid u r)) ninfGrid = hitGrid (afterGrid u (r + 3)) := rfl
theorem pay28_eq (u : Grid) (r : ℕ) : k0_pay28 marks (afterGrid u r) (hitGrid (afterGrid u r)) ninfGrid = wordRow (afterGrid u (r + 1)) := rfl
theorem pay31_eq (u : Grid) (r : ℕ) : k0_pay31 marks (afterGrid u r) (hitGrid (afterGrid u r)) ninfGrid = wordRow (afterGrid u (r + 2)) := rfl
theorem pay34_eq (u : Grid) (r : ℕ) : k0_pay34 marks (afterGrid u r) (hitGrid (afterGrid u r)) ninfGrid = wordRow (afterGrid u (r + 3)) := rfl

/-- The last two rounds and the output. -/
theorem pay40_eq (g u : Grid) (r : ℕ) :
    k0_pay40 g marks (afterGrid u r) (hitGrid (afterGrid u r)) ninfGrid = outGrid g (afterGrid u (r + 2)) := rfl
theorem pay39_eq (u : Grid) :
    k0_pay39 marks (wordRow (afterGrid u 0)) (wordRow (afterGrid u 1)) (wordRow (afterGrid u 2)) (wordRow (afterGrid u 3))
      (wordRow (afterGrid u 4)) (wordRow (afterGrid u 5)) (afterGrid u 6) (wordRow (afterGrid u 6)) (hitGrid (afterGrid u 6)) ninfGrid
      = idsGrid u := rfl

/-! ## The second half's payloads -/

theorem pay44_eq (u : Grid) : k0_pay44 (pickRow u) = wordRow (afterGrid u 0) := rfl
theorem pay47_eq (u : Grid) : k0_pay47 u marks (pickRow u) = wordRow (afterGrid u 1) := rfl
theorem pay50_eq (u : Grid) : k0_pay50 u marks (pickRow u) = wordRow (afterGrid u 2) := rfl
theorem pay51_eq (u : Grid) : k0_pay51 u marks (pickRow u) = afterGrid u 3 := rfl
theorem pay52_eq (u : Grid) : k0_pay52 u marks (pickRow u) = pickRow (afterGrid u 3) := rfl
theorem pay53_eq (u : Grid) : k0_pay53 (pickRow u) = wordRow u := rfl
theorem pay56_eq (u : Grid) (r : ℕ) : k0_pay56 marks (afterGrid u r) (pickRow (afterGrid u r)) = wordRow (afterGrid u (r + 1)) := rfl
theorem pay59_eq (u : Grid) (r : ℕ) : k0_pay59 marks (afterGrid u r) (pickRow (afterGrid u r)) = wordRow (afterGrid u (r + 2)) := rfl
theorem pay60_eq (u : Grid) (r : ℕ) : k0_pay60 marks (afterGrid u r) (pickRow (afterGrid u r)) = afterGrid u (r + 3) := rfl
theorem pay61_eq (u : Grid) (r : ℕ) : k0_pay61 marks (afterGrid u r) (pickRow (afterGrid u r)) = pickRow (afterGrid u (r + 3)) := rfl
theorem pay4_eq (g u : Grid) (r : ℕ) :
    k0_pay4 g marks (afterGrid u r) (pickRow (afterGrid u r)) = outGrid g (afterGrid u (r + 2)) := rfl
theorem pay3_eq (u : Grid) :
    k0_pay3 marks (wordRow (afterGrid u 0)) (wordRow (afterGrid u 1)) (wordRow (afterGrid u 2)) (wordRow (afterGrid u 3))
      (wordRow (afterGrid u 4)) (wordRow (afterGrid u 5)) (afterGrid u 6) (pickRow (afterGrid u 6)) = idsGrid u := rfl

/-! ## The two halves together -/

/-- The gates of a half block from its rows of tokens. -/
def gateGrid (W : FVec Ideal S64x4096 .f32) (b : FVec Ideal S64x1 .f32) (xh : FVec Ideal S512x4096 .f32) : Grid := k0_pay7 W b xh

/-- The scores the selection uses: the gates plus the selection bias. -/
def scoreGrid (gb : FVec Ideal S64x1 .f32) (g : Grid) : Grid := k0_pay41 (k0_pay6 gb) g

/-- A gate is the dot product of the expert's weights with the token, plus the expert's bias. -/
theorem gateGrid_apply (W : FVec Ideal S64x4096 .f32) (b : FVec Ideal S64x1 .f32) (xh : FVec Ideal S512x4096 .f32)
    (i : Fin 64) (c : Fin 512) :
    gateGrid W b xh (ix2 i c) = (∑ k : Fin 4096, W (ix2 i k) * xh (ix2 c k)) + b (ix2 i 0) := by
  unfold gateGrid k0_pay7 k0_pay5
  pointwise

/-- A score is the gate plus the expert's selection bias. -/
theorem scoreGrid_apply (gb : FVec Ideal S64x1 .f32) (g : Grid) (i : Fin 64) (c : Fin 512) :
    scoreGrid gb g (ix2 i c) = g (ix2 i c) + gb (ix2 i 0) := by
  unfold scoreGrid k0_pay41 k0_pay6
  pointwise

variable (x0 : Vec Ideal S1024x4096 .f32) (x1 : Vec Ideal S64x4096 .f32) (x2 x3 : Vec Ideal S64x1 .f32)

/-- The gates of the first 512 tokens and of the last 512. -/
def gate0 : Grid := gateGrid (View.ld x1 r0_0) (View.ld x2 r0_1) (View.ld x0 r0_2)
def gate1 : Grid := gateGrid (View.ld x1 r0_0) (View.ld x2 r0_1) (View.ld x0 r0_3)

/-- Their scores. -/
def score0 : Grid := scoreGrid (View.ld x3 r0_1) (gate0 x0 x1 x2)
def score1 : Grid := scoreGrid (View.ld x3 r0_1) (gate1 x0 x1 x2)

theorem pay64_eq : k0_pay64 x0 x1 x2 x3 = score0 x0 x1 x2 x3 := rfl
theorem pay65_eq : k0_pay65 x0 x1 x2 x3 = marks := rfl
theorem pay66_eq : k0_pay66 x0 x1 x2 x3 = hitGrid (score0 x0 x1 x2 x3) := rfl
theorem pay67_eq : k0_pay67 x0 x1 x2 x3 = ninfGrid := rfl
theorem pay68_eq : k0_pay68 x0 x1 x2 x3 = afterGrid (score0 x0 x1 x2 x3) 3 := by
  unfold k0_pay68; rw [pay64_eq, pay65_eq, pay66_eq, pay67_eq, pay21_eq]
theorem pay69_eq : k0_pay69 x0 x1 x2 x3 = hitGrid (afterGrid (score0 x0 x1 x2 x3) 3) := by
  unfold k0_pay69; rw [pay64_eq, pay65_eq, pay66_eq, pay67_eq, pay24_eq]
theorem pay70_eq : k0_pay70 x0 x1 x2 x3 = ninfGrid := rfl
theorem pay71_eq : k0_pay71 x0 x1 x2 x3 = afterGrid (score0 x0 x1 x2 x3) 6 := by
  unfold k0_pay71; rw [pay65_eq, pay68_eq, pay69_eq, pay70_eq, pay32_eq]
theorem pay72_eq : k0_pay72 x0 x1 x2 x3 = hitGrid (afterGrid (score0 x0 x1 x2 x3) 6) := by
  unfold k0_pay72; rw [pay65_eq, pay68_eq, pay69_eq, pay70_eq, pay35_eq]
theorem pay73_eq : k0_pay73 x0 x1 x2 x3 = ninfGrid := rfl
theorem pay63_eq : k0_pay63 x0 x1 x2 x3 = gate1 x0 x1 x2 := rfl
theorem pay74_eq : k0_pay74 x0 x1 x2 x3 = score1 x0 x1 x2 x3 := rfl
theorem pay75_eq : k0_pay75 x0 x1 x2 x3 = marks := rfl
theorem pay76_eq : k0_pay76 x0 x1 x2 x3 = pickRow (score1 x0 x1 x2 x3) := rfl
theorem pay77_eq : k0_pay77 x0 x1 x2 x3 = afterGrid (score1 x0 x1 x2 x3) 3 := by
  unfold k0_pay77; rw [pay74_eq, pay75_eq, pay76_eq, pay51_eq]
theorem pay78_eq : k0_pay78 x0 x1 x2 x3 = pickRow (afterGrid (score1 x0 x1 x2 x3) 3) := by
  unfold k0_pay78; rw [pay74_eq, pay75_eq, pay76_eq, pay52_eq]
theorem pay79_eq : k0_pay79 x0 x1 x2 x3 = afterGrid (score1 x0 x1 x2 x3) 6 := by
  unfold k0_pay79; rw [pay75_eq, pay77_eq, pay78_eq, pay60_eq]
theorem pay80_eq : k0_pay80 x0 x1 x2 x3 = pickRow (afterGrid (score1 x0 x1 x2 x3) 6) := by
  unfold k0_pay80; rw [pay75_eq, pay77_eq, pay78_eq, pay61_eq]
theorem pay12_eq : k0_pay12 (View.ld x1 r0_0) (View.ld x2 r0_1) (View.ld x3 r0_1) (View.ld x0 r0_2)
    = wordRow (afterGrid (score0 x0 x1 x2 x3) 0) := rfl

/-- The output block is the two halves' outputs side by side. -/
theorem out4_eq : out0_4 x0 x1 x2 x3
    = View.canon [⟨r0_6, outGrid (gate1 x0 x1 x2) (afterGrid (score1 x0 x1 x2 x3) 8)⟩,
        ⟨r0_4, outGrid (gate0 x0 x1 x2) (afterGrid (score0 x0 x1 x2 x3) 8)⟩] := by
  unfold out0_4
  rw [pay63_eq, pay75_eq, pay79_eq, pay80_eq, pay65_eq, pay71_eq, pay72_eq, pay73_eq, pay4_eq, pay40_eq]
  rfl

/-- The block of expert numbers is the two halves' rows side by side. -/
theorem out5_eq : out0_5 x0 x1 x2 x3
    = View.canon [⟨r0_7, idsGrid (score1 x0 x1 x2 x3)⟩, ⟨r0_5, idsGrid (score0 x0 x1 x2 x3)⟩] := by
  unfold out0_5
  rw [pay75_eq, pay76_eq, pay74_eq, pay78_eq, pay77_eq, pay79_eq, pay80_eq, pay65_eq, pay64_eq, pay66_eq, pay67_eq, pay68_eq,
    pay69_eq, pay70_eq, pay71_eq, pay72_eq, pay73_eq, pay12_eq, pay44_eq, pay47_eq, pay50_eq, pay53_eq, pay56_eq, pay59_eq,
    pay17_eq, pay20_eq, pay23_eq, pay28_eq, pay31_eq, pay34_eq]
  simp only [Nat.reduceAdd]
  rw [pay39_eq, pay3_eq]

end Cert.Router

end
-- ==== Proof.Router.Block.lean ====
/- What one block of the kernel computes, read at an index of its two output blocks. -/
module

public import proofs.«01_k».proof.Proof.Router.Halves
public import Idealize.ShloMosaic.Lib.Pipeline.ValueKit

@[expose] public section

set_option maxRecDepth 16384

noncomputable section

namespace Cert.Router

open Idealize.ShloMosaic Idealize.SL.Sem Cert.KernelIdeal Cert.KernelIdeal.Gen

/-- What the kernel makes of a token's gates `g` and scores `w` for an expert: the exponential of the gate over the total of
    the exponentials of the chosen experts' gates, or zero for an expert that was not chosen. -/
def weight (g w : Column) (i : Fin 64) : EReal := if after w 8 i = ⊥ then Ideal.exp (g i) else 0
def share (g w : Column) (i : Fin 64) : EReal := Ideal.div (weight g w i) (∑ k, weight g w k)

/-- A half block's output, token by token. -/
theorem outGrid_col (g u : Grid) (i : Fin 64) (c : Fin 512) :
    outGrid g (afterGrid u 8) (ix2 i c) = share (col g c) (col u c) i := by
  rw [outGrid_apply]
  simp only [weightGrid_apply, col_afterGrid]
  rfl

variable (x0 : Vec Ideal S1024x4096 .f32) (x1 : Vec Ideal S64x4096 .f32) (x2 x3 : Vec Ideal S64x1 .f32)

/-- The gates of token `j` of a block. -/
def gateCol (j : Fin 1024) : Column := fun i => (∑ k : Fin 4096, x1 (ix2 i k) * x0 (ix2 j k)) + x2 (ix2 i 0)
/-- The scores of token `j` of a block. -/
def scoreCol (j : Fin 1024) : Column := fun i => gateCol x0 x1 x2 j i + x3 (ix2 i 0)

/-- The loads of a block's operands, at an index: the weights, the two biases, and the two halves of the tokens. -/
theorem ld_weights (i : Fin 64) (k : Fin 4096) : View.ld x1 r0_0 (ix2 i k) = x1 (ix2 i k) :=
  View.ld_unit_apply_of x1 _ _ _ _ _ fun a => by fin_cases a <;> simp
theorem ld_bias (i : Fin 64) : View.ld x2 r0_1 (ix2 i 0) = x2 (ix2 i 0) :=
  View.ld_unit_apply_of x2 _ _ _ _ _ fun a => by fin_cases a <;> simp
theorem ld_first (c : Fin 512) (k : Fin 4096) (j : Fin 1024) (h : j.val = c.val) : View.ld x0 r0_2 (ix2 c k) = x0 (ix2 j k) :=
  View.ld_unit_apply_of x0 _ _ _ _ _ fun a => by fin_cases a <;> simp [h]
theorem ld_last (c : Fin 512) (k : Fin 4096) (j : Fin 1024) (h : j.val = 512 + c.val) :
    View.ld x0 r0_3 (ix2 c k) = x0 (ix2 j k) :=
  View.ld_unit_apply_of x0 _ _ _ _ _ fun a => by fin_cases a <;> simp [h]

/-- The gates of the two halves are the gates of the block's tokens. -/
theorem col_gate0 (c : Fin 512) (j : Fin 1024) (h : j.val = c.val) : col (gate0 x0 x1 x2) c = gateCol x0 x1 x2 j := by
  funext i
  unfold col gate0 gateCol
  rw [gateGrid_apply, ld_bias]
  exact congrArg (· + _) (Finset.sum_congr rfl fun k _ => by rw [ld_weights, ld_first x0 c k j h])
theorem col_gate1 (c : Fin 512) (j : Fin 1024) (h : j.val = 512 + c.val) : col (gate1 x0 x1 x2) c = gateCol x0 x1 x2 j := by
  funext i
  unfold col gate1 gateCol
  rw [gateGrid_apply, ld_bias]
  exact congrArg (· + _) (Finset.sum_congr rfl fun k _ => by rw [ld_weights, ld_last x0 c k j h])

/-- And so are the scores. -/
theorem col_score0 (c : Fin 512) (j : Fin 1024) (h : j.val = c.val) :
    col (score0 x0 x1 x2 x3) c = scoreCol x0 x1 x2 x3 j := by
  funext i
  unfold col score0 scoreCol
  rw [scoreGrid_apply, ld_bias, ← col_gate0 x0 x1 x2 c j h]; rfl
theorem col_score1 (c : Fin 512) (j : Fin 1024) (h : j.val = 512 + c.val) :
    col (score1 x0 x1 x2 x3) c = scoreCol x0 x1 x2 x3 j := by
  funext i
  unfold col score1 scoreCol
  rw [scoreGrid_apply, ld_bias, ← col_gate1 x0 x1 x2 c j h]; rfl

/-- The output block: token `j`'s number for expert `i`. -/
theorem out0_4_apply (i : Fin 64) (j : Fin 1024) :
    out0_4 x0 x1 x2 x3 (ix2 i j) = share (gateCol x0 x1 x2 j) (scoreCol x0 x1 x2 x3 j) i := by
  rw [out4_eq]
  canon_tiles x h
  · obtain ⟨a, c, rfl⟩ : ∃ a c, x = ix2 a c := ⟨x 0, x 1, eq_ix2 x⟩
    obtain rfl : i = a := Fin.ext h0
    rw [outGrid_col, col_gate1 x0 x1 x2 c j h1, col_score1 x0 x1 x2 x3 c j h1]
  · obtain ⟨a, c, rfl⟩ : ∃ a c, x = ix2 a c := ⟨x 0, x 1, eq_ix2 x⟩
    obtain rfl : i = a := Fin.ext h0
    rw [outGrid_col, col_gate0 x0 x1 x2 c j h1, col_score0 x0 x1 x2 x3 c j h1]

/-- The block of expert numbers: the number round `r` writes out for token `j`. -/
theorem out0_5_apply (r : Fin 8) (j : Fin 1024) :
    out0_5 x0 x1 x2 x3 (ix2 r j) = word (after (scoreCol x0 x1 x2 x3 j) r) := by
  rw [out5_eq]
  canon_tiles x h
  · obtain ⟨a, c, rfl⟩ : ∃ a c, x = ix2 a c := ⟨x 0, x 1, eq_ix2 x⟩
    obtain rfl : r = a := Fin.ext h0
    rw [idsGrid_apply, col_score1 x0 x1 x2 x3 c j h1]
  · obtain ⟨a, c, rfl⟩ : ∃ a c, x = ix2 a c := ⟨x 0, x 1, eq_ix2 x⟩
    obtain rfl : r = a := Fin.ext h0
    rw [idsGrid_apply, col_score0 x0 x1 x2 x3 c j h1]

end Cert.Router

end
-- ==== Proof.Router.Arrays.lean ====
/- What the kernel's two result arrays hold after the run, over the arguments. -/
module

public import proofs.«01_k».proof.Proof.Router.Block
public import Idealize.ShloMosaic.Lib.Claim

@[expose] public section

set_option maxRecDepth 16384

noncomputable section

namespace Cert.Router

open Idealize.ShloMosaic Idealize.ShloMosaic.TcCoe Idealize.SL.Sem Cert.KernelIdeal Cert.KernelIdeal.Gen

/-- The gates of token `q` of sequence `p`: each expert's weights against the token, plus the expert's bias. -/
def gate (X : S4x4096x4096.Idx → EReal) (W : S64x4096.Idx → EReal) (b : S64.Idx → EReal) (p : Fin 4) (q : Fin 4096) : Column :=
  fun i => (∑ k : Fin 4096, W (ix2 i k) * X (ix3 p q k)) + b (ix1 i)

/-- The scores of that token: its gates plus the selection bias. -/
def score (X : S4x4096x4096.Idx → EReal) (W : S64x4096.Idx → EReal) (b gb : S64.Idx → EReal) (p : Fin 4) (q : Fin 4096) : Column :=
  fun i => gate X W b p q i + gb (ix1 i)

variable (m : (ℓ : Loc nD τ sig) → Buf (Elt Ideal) ℓ) (c : Dev nD)

/-- The arguments. -/
abbrev argX : S4x4096x4096.Idx → EReal := m ((c : Thread nD τ).loc main_arg0)
abbrev argW : S64x4096.Idx → EReal := m ((c : Thread nD τ).loc main_arg1)
abbrev argB : S64.Idx → EReal := m ((c : Thread nD τ).loc main_arg2)
abbrev argG : S64.Idx → EReal := m ((c : Thread nD τ).loc main_arg3)

theorem idx0 : ∀ t, win0_0.index t = ![(grid0.coords t 0).val, 0] := by decide +kernel
theorem idx1 : ∀ t, win0_1.index t = ![0, 0] := by decide +kernel
theorem idx2 : ∀ t, win0_2.index t = ![0, 0] := by decide +kernel
theorem idx3 : ∀ t, win0_3.index t = ![0, 0] := by decide +kernel
theorem idx4 : ∀ t, win0_4.index t = ![0, (grid0.coords t 0).val] := by decide +kernel
theorem idx5 : ∀ t, win0_5.index t = ![0, (grid0.coords t 0).val] := by decide +kernel

/-- The sequence and the place in it of the token in row `n` of the flattened tokens. -/
def seqOf (n : Fin 16384) : Fin 4 := ⟨n.val / 4096, by omega⟩
def posOf (n : Fin 16384) : Fin 4096 := ⟨n.val % 4096, by omega⟩

/-- The flattened tokens and the two bias columns the region starts from, at an index. -/
theorem entry_tokens (n : Fin 16384) (k : Fin 4096) : V m c main_call0_v0 (ix2 n k) = argX m c (ix3 (seqOf n) (posOf n) k) := by
  rw [show V m c main_call0_v0 = _ from (by unfold V V0; simp only [List.flatten_cons, List.flatten_nil, List.append_nil]; after_results)]
  pointwise
  rfl
theorem entry_bias (i : Fin 64) : V m c main_call0_v1 (ix2 i 0) = argB m c (ix1 i) := by
  rw [show V m c main_call0_v1 = _ from (by unfold V V0; simp only [List.flatten_cons, List.flatten_nil, List.append_nil]; after_results)]
  pointwise
theorem entry_selection (i : Fin 64) : V m c main_call0_v2 (ix2 i 0) = argG m c (ix1 i) := by
  rw [show V m c main_call0_v2 = _ from (by unfold V V0; simp only [List.flatten_cons, List.flatten_nil, List.append_nil]; after_results)]
  pointwise

/-- A point's block of tokens is a stretch of 1024 rows of them. -/
theorem blk_tokens (t : Fin cfg0.N) (j : Fin 1024) (n : Fin 16384) (h : n.val = (grid0.coords t 0).val * 1024 + j.val)
    (k : Fin 4096) : iblk m c 0 t (ix2 j k) = argX m c (ix3 (seqOf n) (posOf n) k) := by
  rw [← entry_tokens]
  blk_ext [iblk, idx0]
theorem blk_weights (t : Fin cfg0.N) (i : Fin 64) (k : Fin 4096) : iblk m c 1 t (ix2 i k) = argW m c (ix2 i k) := by
  blk_ext [iblk, idx1]
theorem blk_bias (t : Fin cfg0.N) (i : Fin 64) : iblk m c 2 t (ix2 i 0) = argB m c (ix1 i) := by
  rw [← entry_bias]
  blk_ext [iblk, idx2]
theorem blk_selection (t : Fin cfg0.N) (i : Fin 64) : iblk m c 3 t (ix2 i 0) = argG m c (ix1 i) := by
  rw [← entry_selection]
  blk_ext [iblk, idx3]

/-- The block's gates at point `t` are the gates of the tokens the point covers. -/
theorem gateCol_iblk (t : Fin cfg0.N) (j : Fin 1024) (n : Fin 16384) (h : n.val = (grid0.coords t 0).val * 1024 + j.val) :
    gateCol (iblk m c 0 t) (iblk m c 1 t) (iblk m c 2 t) j = gate (argX m c) (argW m c) (argB m c) (seqOf n) (posOf n) := by
  funext i
  unfold gateCol gate
  rw [blk_bias]
  exact congrArg (· + _) (Finset.sum_congr rfl fun k _ => by rw [blk_weights, blk_tokens m c t j n h])

/-- And so are the scores. -/
theorem scoreCol_iblk (t : Fin cfg0.N) (j : Fin 1024) (n : Fin 16384) (h : n.val = (grid0.coords t 0).val * 1024 + j.val) :
    scoreCol (iblk m c 0 t) (iblk m c 1 t) (iblk m c 2 t) (iblk m c 3 t) j
      = score (argX m c) (argW m c) (argB m c) (argG m c) (seqOf n) (posOf n) := by
  funext i
  unfold scoreCol score
  rw [blk_selection, gateCol_iblk m c t j n h]

/-- The array of outputs after the run: experts by flattened tokens. -/
theorem arr4 : (dats m 0 c).arrAt 4 (cfgs 0).N
    = fun i : S64x16384.Idx => share (gate (argX m c) (argW m c) (argB m c) (seqOf (i 1)) (posOf (i 1)))
        (score (argX m c) (argW m c) (argB m c) (argG m c) (seqOf (i 1)) (posOf (i 1))) (i 0) := by
  refine (dats m 0 c).arrAt_eq_of_covers 4 _ (by decide +kernel) fun t hf y => ?_
  blk_simp
  rw [after0_4]
  obtain ⟨i, j, rfl⟩ : ∃ (i : Fin 64) (j : Fin 1024), y = ix2 i j := ⟨y 0, y 1, eq_ix2 y⟩
  refine (out0_4_apply _ _ _ _ i j).trans ?_
  rw [gateCol_iblk m c t j ((win0_4.blk t).view.emb (ix2 i j) 1), scoreCol_iblk m c t j ((win0_4.blk t).view.emb (ix2 i j) 1)]
  · congr 1
    exact Fin.ext (by blk_simp [idx4])
  all_goals blk_simp [idx4]

/-- The array of expert numbers after the run: rounds by flattened tokens. -/
theorem arr5 : (dats m 0 c).arrAt 5 (cfgs 0).N
    = fun i : S8x16384.Idx => word (after (score (argX m c) (argW m c) (argB m c) (argG m c) (seqOf (i 1)) (posOf (i 1))) (i 0).val) := by
  refine (dats m 0 c).arrAt_eq_of_covers 5 _ (by decide +kernel) fun t hf y => ?_
  blk_simp
  rw [after0_5]
  obtain ⟨i, j, rfl⟩ : ∃ (i : Fin 8) (j : Fin 1024), y = ix2 i j := ⟨y 0, y 1, eq_ix2 y⟩
  refine (out0_5_apply _ _ _ _ i j).trans ?_
  rw [scoreCol_iblk m c t j ((win0_5.blk t).view.emb (ix2 i j) 1)]
  · congr 2
    blk_simp [idx5]
  all_goals blk_simp [idx5]

/-- What the kernel leaves in its first result: token by token, each expert's share. -/
def outValue : S4x4096x64.Idx → EReal := fun i =>
  share (gate (argX m c) (argW m c) (argB m c) (i 0) (i 1)) (score (argX m c) (argW m c) (argB m c) (argG m c) (i 0) (i 1)) (i 2)

/-- What it leaves in its second: token by token, the numbers of the eight rounds. -/
def idsValue : S4x4096x8.Idx → BitVec 32 := fun i =>
  word (after (score (argX m c) (argW m c) (argB m c) (argG m c) (i 0) (i 1)) (i 2).val)

/-- The token at place `q` of sequence `p` is row `p * 4096 + q` of the flattened tokens. -/
theorem seqOf_row (p : Fin 4) (q : Fin 4096) (h : p.val * 4096 + q.val < 16384) : seqOf ⟨p.val * 4096 + q.val, h⟩ = p :=
  Fin.ext (by have := q.isLt; show (p.val * 4096 + q.val) / 4096 = p.val; omega)
theorem posOf_row (p : Fin 4) (q : Fin 4096) (h : p.val * 4096 + q.val < 16384) : posOf ⟨p.val * 4096 + q.val, h⟩ = q :=
  Fin.ext (by have := q.isLt; show (p.val * 4096 + q.val) % 4096 = q.val; omega)

/-- Turned over and cut into sequences, the array of outputs is the first result. -/
theorem out_tail : shapeCast S4x4096x64 (transpose S16384x64 [1, 0]
      (fun i : S64x16384.Idx => share (gate (argX m c) (argW m c) (argB m c) (seqOf (i 1)) (posOf (i 1)))
        (score (argX m c) (argW m c) (argB m c) (argG m c) (seqOf (i 1)) (posOf (i 1))) (i 0))
      transposes_S64x16384_S16384x64_1_0) shapeCasts_S16384x64_S4x4096x64 = outValue m c := by
  funext i
  idx_vars i
  pointwise
  rw [seqOf_row, posOf_row]; rfl

/-- And the array of expert numbers is the second. -/
theorem ids_tail : shapeCast S4x4096x8 (transpose S16384x8 [1, 0]
      (fun i : S8x16384.Idx => word (after (score (argX m c) (argW m c) (argB m c) (argG m c) (seqOf (i 1)) (posOf (i 1))) (i 0).val))
      transposes_S8x16384_S16384x8_1_0) shapeCasts_S16384x8_S4x4096x8 = idsValue m c := by
  funext i
  idx_vars i
  pointwise
  rw [seqOf_row, posOf_row]; rfl

/-- The windows stage different arrays. -/
theorem arrRef_injective : Function.Injective (Pipeline.arrRef spec0) := by decide

variable (ρ : Dev nD → PrngReg)

/-- THE RUN: both results hold those values and the arguments are unchanged. -/
theorem run : θ_run defs (onTc (τ := τ) (main (F := Ideal))) ⟨m, fun _ => 0, ρ⟩ (fun r => ∀ c : Dev nD,
      r.2.mem ((c.tc : Thread nD τ).loc main_v0_0) = outValue m c
      ∧ r.2.mem ((c.tc : Thread nD τ).loc main_v0_1) = idsValue m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  run_from Gen.run_main m ρ
  · exact (congrArg (fun A : S64x16384.Idx → EReal => shapeCast S4x4096x64 (transpose S16384x64 [1, 0] A transposes_S64x16384_S16384x64_1_0)
      shapeCasts_S16384x64_S4x4096x64) ((Pipeline.withArrays_arr (cfgs 0).spec arrRef_injective c (V0 m c)
        (fun w => (dats m 0 c).arrAt w (cfgs 0).N) 4).trans (arr4 m c))).trans (out_tail m c)
  · exact (congrArg (fun A : S8x16384.Idx → BitVec 32 => shapeCast S4x4096x8 (transpose S16384x8 [1, 0] A transposes_S8x16384_S16384x8_1_0)
      shapeCasts_S16384x8_S4x4096x8) ((Pipeline.withArrays_arr (cfgs 0).spec arrRef_injective c (V0 m c)
        (fun w => (dats m 0 c).arrAt w (cfgs 0).N) 5).trans (arr5 m c))).trans (ids_tail m c)
  all_goals first | exact W_main_arg0 m _ c | exact W_main_arg2 m _ c | exact W_main_arg3 m _ c

end Cert.Router

end
-- ==== Proof.Router.Picks.lean ====
/- The reference's gates, scores and chosen experts, read one token at a time. -/
module

public import proofs.«01_k».proof.Proof.Gen.ReferenceIdeal.Read
public import proofs.«01_k».proof.Proof.Router.Arrays
public import Idealize.ShloMosaic.Lib.Pointwise

@[expose] public section

set_option maxRecDepth 16384

noncomputable section

namespace Cert.Router

open Idealize.ShloMosaic Cert.ReferenceIdeal Cert.ReferenceIdeal.Gen Cert.ReferenceIdeal.Read

/-- The literal 1.0. -/
theorem ofBits_one : Ideal.ofBits .f32 0x3F800000#32 = 1 := by
  simp [Ideal.ofBits, Ideal.ieee, -EReal.coe_mul]; norm_num

/-- Dividing by one changes nothing. -/
theorem div_by_one (x : EReal) : Ideal.div x 1 = x := by
  simp [Ideal.div]

variable (X : S4x4096x4096.Idx → EReal) (W : S64x4096.Idx → EReal) (b gb : S64.Idx → EReal)

/-- The reference's gates are the kernel's: the factors of each product stand the other way round. -/
theorem ref_gate (p : Fin 4) (q : Fin 4096) (i : Fin 64) :
    val_main_v5 (F := Ideal) X W b (ix3 p q i) = gate X W b p q i := by
  have hl : ∀ k, lidx_main_v0 (ix3 p q i) k = ix3 p q k := fun k => by funext a; fin_cases a <;> rfl
  have hr : ∀ k, ridx_main_v0 (ix3 p q i) k = ix2 i k := fun k => by funext a; fin_cases a <;> rfl
  have hb : idx_main_v1 (idx_main_v2 (ix3 p q i)) = ix1 i := by funext a; fin_cases a; rfl
  rw [val_main_v5_apply, val_main_v3_apply, val_main_v0_apply, val_main_v2_apply, val_main_v1_apply, val_main_v4_apply,
    val_main_cst_apply, hb]
  simp only [hl, hr, mul_comm (X _)]
  exact (congrArg (Ideal.div _) ofBits_one).trans (div_by_one _)

/-- So are its scores. -/
theorem ref_score (p : Fin 4) (q : Fin 4096) (i : Fin 64) :
    val_main_v8 (F := Ideal) X W b gb (ix3 p q i) = score X W b gb p q i := by
  have hb : idx_main_v6 (idx_main_v7 (ix3 p q i)) = ix1 i := by funext a; fin_cases a; rfl
  rw [val_main_v8_apply, ref_gate, val_main_v7_apply, val_main_v6_apply, hb]
  rfl

/-- Two arrays sorted together along an axis: what the second holds at an index. -/
theorem sort2_snd {s : Shape} {α β : Type} (d : Fin s.rank) (cmp : α × β → α × β → BitVec 1) (x : s.Idx → α) (y : s.Idx → β) (j : s.Idx) :
    (Host.sort2 s d.val cmp x y).2 j = y (j.along d (sortedFrom (fun k k' => cmp (x (j.along d k), y (j.along d k))
      (x (j.along d k'), y (j.along d k')) == 1#1) (j d))) := by
  unfold Host.sort2
  rw [dif_pos d.isLt]

/-- Moving along the last of three axes. -/
theorem along_last {n0 n1 n2 : ℕ} (p : Fin n0) (q : Fin n1) (i k : Fin n2) :
    Shape.Idx.along (s := ⟨3, ![n0, n1, n2]⟩) (ix3 p q i) 2 k = ix3 p q k := by
  funext a
  match a with
  | ⟨0, _⟩ => rfl
  | ⟨1, _⟩ => rfl
  | ⟨2, _⟩ => rfl

/-- Position `r` of the greatest along the last of three axes is the place that a stable sort, greater first, puts at `r`. -/
theorem topK_position {n0 n1 n2 n : ℕ} {α : Type} (gt : α → α → BitVec 1) (x : (⟨3, ![n0, n1, n2]⟩ : Shape).Idx → α)
    (h : (⟨3, ![n0, n1, n2]⟩ : Shape).Slices (fun _ => 0) ⟨3, ![n0, n1, n]⟩) (hn : n ≤ n2) (p : Fin n0) (q : Fin n1) (r : Fin n) :
    (Host.topK ⟨3, ![n0, n1, n]⟩ 2 gt x h).2 (ix3 p q r)
      = BitVec.ofNat 32 (sortedFrom (fun k k' : Fin n2 => gt (x (ix3 p q k)) (x (ix3 p q k')) == 1#1) (r.castLE hn)).val := by
  show extractStridedSlice ⟨3, ![n0, n1, n]⟩ (fun _ => 0) (Host.sort2 ⟨3, ![n0, n1, n2]⟩ 2 (fun l r => gt l.1 r.1) x
    (iotaInDim ⟨3, ![n0, n1, n2]⟩ 32 2)).2 h (ix3 p q r) = _
  refine (extractStridedSlice_apply (fun _ => 0) _ h (ix3 p q r) (ix3 p q (r.castLE hn)) fun a => ?_).trans ?_
  · match a with
    | ⟨0, _⟩ => exact (Nat.zero_add _).symm
    | ⟨1, _⟩ => exact (Nat.zero_add _).symm
    | ⟨2, _⟩ => exact (Nat.zero_add _).symm
  refine (sort2_snd (s := ⟨3, ![n0, n1, n2]⟩) (2 : Fin 3) _ _ _ _).trans ?_
  refine (congrArg (fun j : (⟨3, ![n0, n1, n2]⟩ : Shape).Idx => BitVec.ofNat 32 (j 2).val) (along_last p q _ _)).trans ?_
  refine congrArg (fun B : Fin n2 → Fin n2 → Bool => BitVec.ofNat 32 (sortedFrom B (r.castLE hn)).val) ?_
  funext k k'
  exact congrArg₂ (fun j j' => gt (x j) (x j') == 1#1) (along_last p q _ k) (along_last p q _ k')

/-- The reference's chosen experts are the kernel's, wherever no score is minus infinity. -/
theorem ref_ids (p : Fin 4) (q : Fin 4096) (hw : ∀ i, score X W b gb p q i ≠ ⊥) (r : Fin 8) :
    val_main_indices (F := Ideal) X W b gb (ix3 p q r) = BitVec.ofNat 32 (taken (score X W b gb p q) r).val := by
  unfold val_main_indices
  refine (topK_position (n0 := 4) (n1 := 4096) (n2 := 64) (n := 8) _ _ _ (by norm_num) p q r).trans ?_
  simp only [ref_score]
  exact congrArg (fun i : Fin 64 => BitVec.ofNat 32 i.val) (sortedFrom_eq_taken hw r)

end Cert.Router

end
-- ==== Proof.Router.Chosen.lean ====
/- The reference's gates at the chosen experts, and its array with minus infinity at every other expert. -/
module

public import proofs.«01_k».proof.Proof.Router.Picks

@[expose] public section

set_option maxRecDepth 16384

noncomputable section

namespace Cert.Router

open Idealize.ShloMosaic Cert.ReferenceIdeal Cert.ReferenceIdeal.Gen Cert.ReferenceIdeal.Read

/-- A gather along the last of three axes, one number for each place: the operand at that number, read signed and kept in range. -/
theorem gather_last {α : Type} (x : S4x4096x64.Idx → α) (idx : IVec S4x4096x8x1 32) (p : Fin 4) (q : Fin 4096) (r : Fin 8) :
    Host.gather gather_S4x4096x64_S4x4096x8x1_S4x4096x8_n_2_01_01_2_3_111 x idx (ix3 p q r)
      = x (ix3 p q ⟨min (idx (ix4 p q r 0)).toInt.toNat 63, by omega⟩) := by
  set d := gather_S4x4096x64_S4x4096x8x1_S4x4096x8_n_2_01_01_2_3_111 with hd
  have hs : d.siIdx (ix3 p q r) ⟨List.idxOf (2 : Fin 3) d.startIndexMap, List.idxOf_lt_length_iff.2 (List.mem_singleton.mpr rfl)⟩
      = ix4 p q r 0 := by
    funext a
    refine Fin.ext ?_
    match a with
    | ⟨0, _⟩ => rfl
    | ⟨1, _⟩ => rfl
    | ⟨2, _⟩ => rfl
    | ⟨3, _⟩ => rfl
  have hb : ∀ a : Fin 3, a ∈ d.operandBatchingDims → d.start (ix3 p q r) idx a + d.batchCoord (ix3 p q r) a + d.offCoord (ix3 p q r) a
      = d.batchCoord (ix3 p q r) a := fun a ha => by
    rw [d.start_batching _ _ _ ha, d.offCoord_eq_zero _ _ fun h => ((d.mem_sKept a).1 h).2 ha, Nat.zero_add, Nat.add_zero]
  have h2 : d.start (ix3 p q r) idx (2 : Fin 3) + d.batchCoord (ix3 p q r) (2 : Fin 3) + d.offCoord (ix3 p q r) (2 : Fin 3)
      = min (idx (ix4 p q r 0)).toInt.toNat 63 := by
    rw [d.batchCoord_eq_zero _ _ (by decide), d.offCoord_eq_zero _ _ (by decide)]
    unfold GatherDims.start
    rw [dif_pos (show (2 : Fin 3) ∈ d.startIndexMap from List.mem_singleton.mpr rfl)]
    exact congrArg (fun j => min (idx j).toInt.toNat 63) hs
  refine congrArg x (funext fun a => Fin.ext ?_)
  match a with
  | ⟨0, _⟩ => exact hb 0 (by decide)
  | ⟨1, _⟩ => exact hb 1 (by decide)
  | ⟨2, _⟩ => exact h2

/-- Expert numbers as words: none is negative, none is above 63, and each reads back as itself. -/
theorem expert_not_neg (i : Fin 64) : IntOp.cmpi .slt (BitVec.ofNat 32 i.val) 0#32 = 0#1 := by revert i; decide
theorem expert_in_range (i : Fin 64) :
    IntOp.andi (IntOp.cmpi .sge (BitVec.ofNat 32 i.val) 0#32) (IntOp.cmpi .sle (BitVec.ofNat 32 i.val) 63#32) = 1#1 := by
  revert i; decide
theorem expert_toNat (i : Fin 64) : min (BitVec.ofNat 32 i.val).toInt.toNat 63 = i.val := by revert i; decide
theorem expert_eq (i j : Fin 64) : IntOp.cmpi .eq (BitVec.ofNat 32 i.val) (BitVec.ofNat 32 j.val) = if i = j then 1#1 else 0#1 := by
  revert i j; decide

/-- Folding "and" over entries that all hold gives "true". -/
theorem fold_and_ones {ι : Type} (s : Finset ι) (f : ι → BitVec 1) (hf : ∀ i, f i = 1#1) : s.fold IntOp.andi 1#1 f = 1#1 := by
  classical
  induction s using Finset.induction_on with
  | empty => rfl
  | insert a s ha ih => rw [Finset.fold_insert ha, ih, hf]; rfl

variable (X : S4x4096x4096.Idx → EReal) (W : S64x4096.Idx → EReal) (b gb : S64.Idx → EReal)
variable (hw : ∀ p q i, score X W b gb p q i ≠ ⊥)
include hw

/-- The chosen expert numbers, negative ones counted from the end: there are none, so they are the same. -/
theorem ref_number (j : S4x4096x8.Idx) :
    val_main_call0_v4 (F := Ideal) X W b gb j = BitVec.ofNat 32 (taken (score X W b gb (j 0) (j 1)) (j 2).val).val := by
  have hj : val_main_indices (F := Ideal) X W b gb j = BitVec.ofNat 32 (taken (score X W b gb (j 0) (j 1)) (j 2).val).val :=
    (congrArg _ (eq_ix3 j)).trans (ref_ids X W b gb (j 0) (j 1) (hw _ _) (j 2))
  rw [val_main_call0_v4_apply, val_main_call0_v1_apply, val_main_call0_v0_apply, val_main_call0_c_apply, hj, expert_not_neg]
  rfl

/-- Every chosen number is in range. -/
theorem ref_in_range (i : S4x4096x8x1.Idx) : val_main_call0_v11 (F := Ideal) X W b gb i = 1#1 := by
  rw [val_main_call0_v11_apply, val_main_call0_v7_apply, val_main_call0_v10_apply, val_main_call0_v5_apply, ref_number X W b gb hw,
    val_main_call0_v6_apply, val_main_call0_c_2_apply, val_main_call0_v9_apply, val_main_call0_v8_apply, val_main_call0_c_1_apply]
  exact expert_in_range _

/-- So the range check passes at every place. -/
theorem ref_check (j : S4x4096x8.Idx) : val_main_call0_v12 (F := Ideal) X W b gb j = 1#1 := by
  unfold val_main_call0_v12
  rw [Host.reduce_eq_fold]
  exact fold_and_ones _ _ (ref_in_range X W b gb hw)

/-- The logits are the gates of the chosen experts. -/
theorem ref_logit (p : Fin 4) (q : Fin 4096) (r : Fin 8) :
    val_main_v9 (F := Ideal) X W b gb (ix3 p q r) = gate X W b p q (taken (score X W b gb p q) r) := by
  have hi : idx_main_call0_v5 (ix4 p q r 0) = ix3 p q r := by
    have := p.isLt; have := q.isLt; have := r.isLt
    funext a
    refine Fin.ext ?_
    match a with
    | ⟨0, _⟩ => show (((p.val * 4096 + q.val) * 8 + r.val) * 1 + 0) / 32768 = p.val; omega
    | ⟨1, _⟩ => show (((p.val * 4096 + q.val) * 8 + r.val) * 1 + 0) / 8 % 4096 = q.val; omega
    | ⟨2, _⟩ => show (((p.val * 4096 + q.val) * 8 + r.val) * 1 + 0) % 8 = r.val; omega
  have hn : val_main_call0_v5 (F := Ideal) X W b gb (ix4 p q r 0) = BitVec.ofNat 32 (taken (score X W b gb p q) r).val := by
    rw [val_main_call0_v5_apply, hi, ref_number X W b gb hw]; rfl
  rw [val_main_v9_apply, ref_check X W b gb hw]
  show val_main_call0_v13 (F := Ideal) X W b gb (ix3 p q r) = _
  unfold val_main_call0_v13
  rw [gather_last, ref_gate]
  refine congrArg (gate X W b p q) (Fin.ext ?_)
  show min (val_main_call0_v5 (F := Ideal) X W b gb (ix4 p q r 0)).toInt.toNat 63 = _
  rw [hn, expert_toNat]

end Cert.Router

end
-- ==== Proof.Router.Softmax.lean ====
/- The reference's first result at an index: the softmax of the chosen experts' gates, shifted by their greatest. -/
module

public import proofs.«01_k».proof.Proof.Router.Chosen

@[expose] public section

set_option maxRecDepth 16384

noncomputable section

namespace Cert.Router

open Idealize.ShloMosaic Cert.ReferenceIdeal Cert.ReferenceIdeal.Gen Cert.ReferenceIdeal.Read

/-- The gates of the chosen experts, minus infinity at every other expert. -/
def masked (g w : Column) : Column := fun i => if after w 8 i = ⊥ then g i else ⊥

/-- The greatest of those. -/
def top (g w : Column) : EReal := Finset.univ.fold max ⊥ (masked g w)

/-- The exponential of each, shifted by the greatest. -/
def shifted (g w : Column) (i : Fin 64) : EReal := Ideal.exp (masked g w i - top g w)

/-- Among eight different experts, adding one for each that is expert `i` counts whether it is there. -/
theorem count_one_hot {t : Fin 8 → Fin 64} (ht : Function.Injective t) (i : Fin 64) :
    (∑ r, if t r = i then (1 : EReal) else 0) = if ∃ r, t r = i then 1 else 0 := by
  by_cases h : ∃ r, t r = i
  · obtain ⟨r, rfl⟩ := h
    simp [ht.eq_iff]
  · rw [if_neg h]
    exact Finset.sum_eq_zero fun r _ => if_neg fun e => h ⟨r, e⟩

/-- And adding the gate of each that is expert `i` gives that expert's gate if it is there. -/
theorem sum_one_hot {t : Fin 8 → Fin 64} (ht : Function.Injective t) (g : Column) (i : Fin 64) :
    (∑ r, (if t r = i then (1 : EReal) else 0) * g (t r)) = if ∃ r, t r = i then g i else 0 := by
  by_cases h : ∃ r, t r = i
  · obtain ⟨r, rfl⟩ := h
    simp [ht.eq_iff]
  · rw [if_neg h]
    exact Finset.sum_eq_zero fun r _ => by rw [if_neg fun e => h ⟨r, e⟩, zero_mul]

variable (X : S4x4096x4096.Idx → EReal) (W : S64x4096.Idx → EReal) (b gb : S64.Idx → EReal)
variable (hw : ∀ p q i, score X W b gb p q i ≠ ⊥)

include hw

/-- The one-hot array: one where the chosen expert is that expert, else zero. -/
theorem ref_one_hot (p : Fin 4) (q : Fin 4096) (r : Fin 8) (i : Fin 64) :
    val_main_v10 (F := Ideal) X W b gb (ix4 p q r i) = if taken (score X W b gb p q) r = i then 1 else 0 := by
  have h0 : idx_main_call1_v0 (idx_main_call1_v2 (ix4 p q r i)) = ix3 p q r := by funext a; fin_cases a <;> rfl
  rw [val_main_v10_apply, val_main_call1_v4_apply, val_main_call1_v2_apply, val_main_call1_v0_apply, h0,
    ref_ids X W b gb p q (hw p q), val_main_call1_v3_apply, val_main_call1_v1_apply]
  refine (congrArg (fun c => FloatOps.uitofp (F := Ideal) .f32 c) (expert_eq _ i)).trans ?_
  show (((if taken (score X W b gb p q) r = i then 1#1 else 0#1 : BitVec 1).toNat : ℝ) : EReal) = _
  split <;> simp

/-- The count of rounds that chose an expert: one or zero. -/
theorem ref_count (p : Fin 4) (q : Fin 4096) (i : Fin 64) :
    val_main_v15 (F := Ideal) X W b gb (ix3 p q i) = if after (score X W b gb p q) 8 i = ⊥ then 1 else 0 := by
  have hk : ∀ r : Fin 8, idx_main_v15 (ix3 p q i) r = ix4 p q r i := fun r => by funext a; fin_cases a <;> rfl
  rw [val_main_v15_apply, val_main_cst_1_apply]
  simp only [hk, ref_one_hot X W b gb hw]
  refine (congrArg₂ (· + ·) Ideal.ofBits_zero_f32 (count_one_hot (taken_injective (hw p q)) i)).trans ?_
  simp only [zero_add, after_eq_bot (hw p q)]

/-- The gates put back at their experts. -/
theorem ref_scattered (p : Fin 4) (q : Fin 4096) (i : Fin 64) :
    val_main_v14 (F := Ideal) X W b gb (ix3 p q i) = if after (score X W b gb p q) 8 i = ⊥ then gate X W b p q i else 0 := by
  have hk : ∀ r : Fin 8, idx_main_v14 (ix3 p q i) r = ix4 p q r i := fun r => by funext a; fin_cases a <;> rfl
  have h0 : ∀ r : Fin 8, idx_main_v11 (idx_main_v12 (ix4 p q r i)) = ix3 p q r := fun r => by funext a; fin_cases a <;> rfl
  rw [val_main_v14_apply, val_main_cst_0_apply]
  simp only [hk, val_main_v13_apply, ref_one_hot X W b gb hw, val_main_v12_apply, val_main_v11_apply, h0, ref_logit X W b gb hw]
  refine (congrArg₂ (· + ·) Ideal.ofBits_zero_f32 (sum_one_hot (taken_injective (hw p q)) (gate X W b p q) i)).trans ?_
  simp only [zero_add, after_eq_bot (hw p q)]

/-- The array that the softmax is taken of. -/
theorem ref_masked (p : Fin 4) (q : Fin 4096) (i : Fin 64) :
    val_main_v18 (F := Ideal) X W b gb (ix3 p q i) = masked (gate X W b p q) (score X W b gb p q) i := by
  rw [val_main_v18_apply, val_main_v17_apply, ref_count X W b gb hw, ref_scattered X W b gb hw, val_main_v16_apply, val_main_cst_2_apply,
    val_main_call2_v1_apply, val_main_call2_v0_apply, val_main_cst_3_apply]
  unfold masked
  show (if Ideal.cmp .ogt _ (Ideal.ofBits .f32 0x00000000#32) = 1 then _ else Ideal.ofBits .f32 0xFF800000#32) = _
  rw [Ideal.ofBits_zero_f32, ofBits_ninf]
  by_cases h : after (score X W b gb p q) 8 i = ⊥ <;> simp [h, Ideal.cmp]

/-- Its greatest entry for a token. -/
theorem ref_top (p : Fin 4) (q : Fin 4096) :
    val_main_v21 (F := Ideal) X W b gb (ix2 p q) = top (gate X W b p q) (score X W b gb p q) := by
  have hr : S4x4096x64.Reduces [2] S4x4096 := by decide
  have hl : ∀ k : Fin 64, hr.lift (ix2 p q) k = ix3 p q k := fun k =>
    funext fun a => Fin.ext (by match a with | ⟨0, _⟩ => rfl | ⟨1, _⟩ => rfl | ⟨2, _⟩ => rfl)
  rw [val_main_v21_apply, val_main_v20_apply, val_main_cst_5_apply]
  unfold val_main_v19
  rw [Host.reduce_eq_fold_single _ _ _ _ hr, val_main_cst_4_apply]
  have hf : (val_main_v18 (F := Ideal) X W b gb) ∘ hr.lift (ix2 p q) = masked (gate X W b p q) (score X W b gb p q) :=
    funext fun k => (congrArg _ (hl k)).trans (ref_masked X W b gb hw p q k)
  rw [hf]
  show max (Ideal.ofBits .f32 0xFF800000#32) (Finset.univ.fold max (Ideal.ofBits .f32 0xFF800000#32)
    (masked (gate X W b p q) (score X W b gb p q))) = _
  rw [ofBits_ninf]
  exact max_eq_right bot_le

/-- The shifted exponentials. -/
theorem ref_shifted (p : Fin 4) (q : Fin 4096) (i : Fin 64) :
    val_main_v25 (F := Ideal) X W b gb (ix3 p q i) = shifted (gate X W b p q) (score X W b gb p q) i := by
  have h0 : idx_main_v22 (idx_main_v23 (ix3 p q i)) = ix2 p q := by funext a; fin_cases a <;> rfl
  rw [val_main_v25_apply, val_main_v24_apply, ref_masked X W b gb hw, val_main_v23_apply, val_main_v22_apply, h0, ref_top X W b gb hw]
  rfl

/-- The first result: each shifted exponential over their sum. -/
theorem ref_out (p : Fin 4) (q : Fin 4096) (i : Fin 64) :
    val_main_v29 (F := Ideal) X W b gb (ix3 p q i)
      = Ideal.div (shifted (gate X W b p q) (score X W b gb p q) i) (∑ k, shifted (gate X W b p q) (score X W b gb p q) k) := by
  have h0 : idx_main_v27 (idx_main_v28 (ix3 p q i)) = ix2 p q := by funext a; fin_cases a <;> rfl
  have hk : ∀ k : Fin 64, idx_main_v26 (ix2 p q) k = ix3 p q k := fun k => by funext a; fin_cases a <;> rfl
  rw [val_main_v29_apply, val_main_v28_apply, val_main_v27_apply, h0, val_main_v26_apply, val_main_cst_6_apply]
  simp only [hk, ref_shifted X W b gb hw]
  refine congrArg (Ideal.div _) ?_
  exact (congrArg (· + _) Ideal.ofBits_zero_f32).trans (zero_add _)

end Cert.Router

end
-- ==== Proof.Router.Equation.lean ====
/- For real gates the plain and the shifted softmax over the chosen experts are equal. -/
module

public import proofs.«01_k».proof.Proof.Router.Softmax

@[expose] public section

noncomputable section

namespace Cert.Router

open Idealize.ShloMosaic

/-- Over real gates the greatest of the chosen gates is one of them, so real. -/
theorem top_real {g w : Column} (hg : ∀ i, ∃ x : ℝ, g i = x) (hw : ∀ i, w i ≠ ⊥) : ∃ M : ℝ, top g w = M := by
  have hm : top g w = Finset.univ.sup (masked g w) := rfl
  obtain ⟨i, -, hi⟩ := Finset.exists_mem_eq_sup Finset.univ Finset.univ_nonempty (masked g w)
  have hle : masked g w (taken w 0) ≤ top g w := hm ▸ Finset.le_sup (Finset.mem_univ _)
  have h0 : masked g w (taken w 0) = g (taken w 0) := if_pos ((after_eq_bot hw _).mpr ⟨0, rfl⟩)
  obtain ⟨x, hx⟩ := hg (taken w 0)
  rw [hm, hi] at hle ⊢
  rw [h0, hx] at hle
  unfold masked at hle ⊢
  split at hle
  · rw [if_pos ‹_›]; exact hg i
  · exact absurd (le_bot_iff.mp hle) (EReal.coe_ne_bot x)

/-- Each shifted exponential is the plain weight times one positive real number. -/
theorem shifted_eq {g w : Column} (hg : ∀ i, ∃ x : ℝ, g i = x) {M : ℝ} (hM : top g w = M) (i : Fin 64) :
    ∃ a : ℝ, 0 ≤ a ∧ weight g w i = a ∧ shifted g w i = ((a * Real.exp (-M) : ℝ) : EReal) ∧ (after w 8 i = ⊥ → 0 < a) := by
  unfold weight shifted masked
  rw [hM]
  by_cases h : after w 8 i = ⊥
  · obtain ⟨x, hx⟩ := hg i
    refine ⟨Real.exp x, (Real.exp_pos x).le, ?_, ?_, fun _ => Real.exp_pos x⟩
    · rw [if_pos h, hx, Ideal.exp_coe]
    · rw [if_pos h, hx, ← EReal.coe_sub, Ideal.exp_coe, ← Real.exp_add, sub_eq_add_neg]
  · refine ⟨0, le_rfl, ?_, ?_, fun h' => absurd h' h⟩
    · rw [if_neg h]; rfl
    · rw [if_neg h, EReal.bot_sub, zero_mul]; rfl

/-- A finite sum of reals, as an extended real. -/
theorem coe_sum (a : Fin 64 → ℝ) : ∑ k, (a k : EReal) = ((∑ k, a k : ℝ) : EReal) :=
  (map_sum (⟨⟨(↑), EReal.coe_zero⟩, EReal.coe_add⟩ : ℝ →+ EReal) a _).symm

/-- The two softmaxes agree. -/
theorem softmax_shift {g w : Column} (hg : ∀ i, ∃ x : ℝ, g i = x) (hw : ∀ i, w i ≠ ⊥) (i : Fin 64) :
    Ideal.div (shifted g w i) (∑ k, shifted g w k) = share g w i := by
  obtain ⟨M, hM⟩ := top_real hg hw
  choose a ha0 haw has hap using shifted_eq (w := w) hg hM
  have hS : 0 < ∑ k, a k := Finset.sum_pos' (fun k _ => ha0 k)
    ⟨taken w 0, Finset.mem_univ _, hap _ ((after_eq_bot hw _).mpr ⟨0, rfl⟩)⟩
  have hE : 0 < Real.exp (-M) := Real.exp_pos _
  unfold share
  simp only [haw, has, coe_sum, ← Finset.sum_mul]
  rw [Ideal.div_coe (mul_pos hS hE).ne', Ideal.div_coe hS.ne', ← EReal.coe_mul, ← EReal.coe_mul, mul_one_div, mul_one_div,
    mul_div_mul_right _ _ hE.ne']

end Cert.Router

end
-- ==== Proof.Router.Finite.lean ====
/- What the precondition gives: every gate is a real number, and no score is minus infinity. -/
module

public import proofs.«01_k».proof.Defs
public import proofs.«01_k».proof.Proof.Router.Arrays

@[expose] public section

noncomputable section

namespace Cert.Router

open Idealize.ShloMosaic Cert.KernelIdeal

/-- An extended real that is a real number. -/
def IsReal (v : EReal) : Prop := ∃ x : ℝ, v = x

theorem IsReal.add {u v : EReal} : IsReal u → IsReal v → IsReal (u + v)
  | ⟨x, hx⟩, ⟨y, hy⟩ => ⟨x + y, by rw [hx, hy, EReal.coe_add]⟩

theorem IsReal.mul {u v : EReal} : IsReal u → IsReal v → IsReal (u * v)
  | ⟨x, hx⟩, ⟨y, hy⟩ => ⟨x * y, by rw [hx, hy, EReal.coe_mul]⟩

theorem IsReal.sum {ι : Type} (s : Finset ι) (f : ι → EReal) (hf : ∀ i, IsReal (f i)) : IsReal (∑ i ∈ s, f i) := by
  classical
  induction s using Finset.induction_on with
  | empty => exact ⟨0, rfl⟩
  | insert a s ha ih => rw [Finset.sum_insert ha]; exact (hf a).add ih

theorem IsReal.ne_bot {v : EReal} : IsReal v → v ≠ ⊥
  | ⟨x, hx⟩ => hx ▸ EReal.coe_ne_bot x

/-- The literal for plus infinity. -/
theorem ofBits_inf : Ideal.ofBits .f32 0x7F800000#32 = ⊤ := by simp [Ideal.ofBits, Ideal.ieee]

/-- Below plus infinity in absolute value means real. -/
theorem isReal_of_lt (v : EReal) (h : Ideal.cmp .olt (max v (-v)) (Ideal.ofBits .f32 0x7F800000#32) = 1#1) : IsReal v := by
  rw [ofBits_inf] at h
  have hlt : max v (-v) < ⊤ := by
    by_contra hn
    simp [Ideal.cmp, hn] at h
  induction v with
  | bot => simp at hlt
  | top => simp at hlt
  | coe x => exact ⟨x, rfl⟩

/-- Above minus infinity means not minus infinity. -/
theorem ne_bot_of_gt (v : EReal) (h : Ideal.cmp .ogt v (Ideal.ofBits .f32 0xFF800000#32) = 1#1) : v ≠ ⊥ := by
  rintro rfl
  simp [Ideal.cmp, ofBits_ninf] at h

/-- Gates of real arguments are real. -/
theorem gate_real {X : S4x4096x4096.Idx → EReal} {W : S64x4096.Idx → EReal} {b : S64.Idx → EReal} (hX : ∀ j, IsReal (X j))
    (hW : ∀ j, IsReal (W j)) (hb : ∀ j, IsReal (b j)) (p : Fin 4) (q : Fin 4096) (i : Fin 64) : IsReal (gate X W b p q i) :=
  (IsReal.sum _ _ fun _ => (hW _).mul (hX _)).add (hb _)

/-- And their scores are not minus infinity, if no selection bias is. -/
theorem score_ne_bot {X : S4x4096x4096.Idx → EReal} {W : S64x4096.Idx → EReal} {b gb : S64.Idx → EReal} (hX : ∀ j, IsReal (X j))
    (hW : ∀ j, IsReal (W j)) (hb : ∀ j, IsReal (b j)) (hg : ∀ j, gb j ≠ ⊥) (p : Fin 4) (q : Fin 4096) (i : Fin 64) :
    score X W b gb p q i ≠ ⊥ :=
  fun h => (EReal.add_eq_bot_iff.mp h).elim (gate_real hX hW hb p q i).ne_bot (hg _)

/-- The precondition makes every entry of the tokens, the weights and the biases real, and no selection bias minus infinity. -/
theorem args_finite [hPre : Cert.Pre_finite.Facts] {m : (ℓ : Loc nD τ sig) → Buf (Elt Ideal) ℓ} (h : Cert.Pre_KernelIdeal_finite m)
    (c : Dev nD) : (∀ j, IsReal (argX m c j)) ∧ (∀ j, IsReal (argW m c j)) ∧ (∀ j, IsReal (argB m c j)) ∧ ∀ j, argG m c j ≠ ⊥ :=
  ⟨fun j => isReal_of_lt _ (congrFun (h c).1 j), fun j => isReal_of_lt _ (congrFun (h c).2.1 j),
    fun j => isReal_of_lt _ (congrFun (h c).2.2.1 j), fun j => ne_bot_of_gt _ (congrFun (h c).2.2.2 j)⟩

end Cert.Router

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Router.Arrays
public import proofs.«01_k».proof.Proof.Router.Equation
public import proofs.«01_k».proof.Proof.Router.Finite
public import Idealize.ShloMosaic.Adequacy
public import Idealize.ShloMosaic.Init

@[expose] public section

set_option maxRecDepth 16384

noncomputable section

namespace Cert.Proof

open Idealize.ShloMosaic Idealize.SL.Sem Cert.Router

/-- The side conditions of the precondition's own operations. -/
theorem pre_facts : Cert.Pre_finite.Facts where
  bcast_S_S4x4096x4096 := by decide
  bcast_S_S64x4096 := by decide
  bcast_S_S64 := by decide

/-- The reference's frame: its arguments end unchanged, and it has no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread _ Cert.ReferenceIdeal.τ).loc Cert.ReferenceIdeal.main_arg0) = m ((c.tc : Thread _ _).loc Cert.ReferenceIdeal.main_arg0)
        ∧ r.2.mem ((c.tc : Thread _ Cert.ReferenceIdeal.τ).loc Cert.ReferenceIdeal.main_arg1) = m ((c.tc : Thread _ _).loc Cert.ReferenceIdeal.main_arg1)
        ∧ r.2.mem ((c.tc : Thread _ Cert.ReferenceIdeal.τ).loc Cert.ReferenceIdeal.main_arg2) = m ((c.tc : Thread _ _).loc Cert.ReferenceIdeal.main_arg2)
        ∧ r.2.mem ((c.tc : Thread _ Cert.ReferenceIdeal.τ).loc Cert.ReferenceIdeal.main_arg3) = m ((c.tc : Thread _ _).loc Cert.ReferenceIdeal.main_arg3))
        ∧ r.2.sem = fun _ => 0) :=
  (θ_run Cert.ReferenceIdeal.defs _ _).mono (fun r h => ⟨fun c => (h c).2.2, sem_eq_zero_of_no_sems (by decide) r.2⟩)
    (Cert.ReferenceIdeal.Value.run (F := Ideal) m g)

section Values

variable [hPre : Cert.Pre_finite.Facts]
variable {m : (ℓ : Loc Cert.KernelIdeal.nD Cert.KernelIdeal.τ Cert.KernelIdeal.sig) → Buf (Elt Ideal) ℓ}

/-- The reference's first result, over the kernel's arguments, is the kernel's first result. -/
theorem out_tied (hm : Cert.Pre_KernelIdeal_finite m) (c : Dev Cert.KernelIdeal.nD) :
    Cert.ReferenceIdeal.Read.val_main_v29 (F := Ideal) (argX m c) (argW m c) (argB m c) (argG m c) = outValue m c := by
  obtain ⟨hX, hW, hb, hg⟩ := args_finite hm c
  have hw := score_ne_bot hX hW hb hg
  funext j
  refine (congrArg _ (eq_ix3 j)).trans ((ref_out _ _ _ _ hw (j 0) (j 1) (j 2)).trans ?_)
  exact softmax_shift (gate_real hX hW hb _ _) (hw _ _) _

/-- And so is the second: the chosen experts. -/
theorem ids_tied (hm : Cert.Pre_KernelIdeal_finite m) (c : Dev Cert.KernelIdeal.nD) :
    Cert.ReferenceIdeal.Read.val_main_indices (F := Ideal) (argX m c) (argW m c) (argB m c) (argG m c) = idsValue m c := by
  obtain ⟨hX, hW, hb, hg⟩ := args_finite hm c
  have hw := score_ne_bot hX hW hb hg
  funext j
  refine (congrArg _ (eq_ix3 j)).trans ((ref_ids _ _ _ _ (j 0) (j 1) (hw _ _) (j 2)).trans ?_)
  exact (word_eq _).symm

end Values

/-- Kernel and reference end with equal results: the kernel's are `outValue` and `idsValue`, and the reference's are tied to them. -/
theorem results_equal (hPre : Cert.Pre_finite.Facts) : Cert.algebraic_KernelIdeal_ReferenceIdeal_pre_finite (hPre_finite := hPre) := by
  intro m g m' g' hm hagree
  refine ⟨fun c => outValue m c, fun c => idsValue m c, Cert.Router.run m g,
    (θ_run Cert.ReferenceIdeal.defs _ _).mono (fun r h c => ⟨(h c).1.trans ?_, (h c).2.1.trans ?_, (h c).2.2⟩)
      (Cert.ReferenceIdeal.Value.run (F := Ideal) m' g')⟩
  · refine (Cert.ReferenceIdeal.Read.val_main_v29_eq m' c).trans ?_
    obtain ⟨h0, h1, h2, h3⟩ := hagree c
    rw [h0, h1, h2, h3]
    exact out_tied hm c
  · obtain ⟨h0, h1, h2, h3⟩ := hagree c
    refine (Cert.ReferenceIdeal.Read.val_main_indices_eq _ _ _ _).trans ?_
    rw [h0, h1, h2, h3]
    exact ids_tied hm c

/-- THE CLAIM: the three frames, the ideal program, and the equality of both results. -/
theorem claim : Cert.Claim :=
  ⟨Cert.Kernel.Gen.facts, Cert.KernelIdeal.Gen.facts, Cert.ReferenceIdeal.Gen.facts, pre_facts,
    fun m g _ => Cert.Kernel.Gen.frame m g, fun m g _ => Cert.KernelIdeal.Gen.frame m g, fun m g _ => Cert.KernelIdeal.Gen.frame m g,
    fun m g _ => frame_reference m g, fun m g _ => frame_reference m g, trivial, results_equal pre_facts⟩

end Cert.Proof

end
